-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3)
      ∧ r.2.mem ((c.tc : Thread Cert.Ret.nD Cert.Ret.τ).loc Cert.Ret.main_arg4) = m ((c.tc : Thread Cert.Ret.nD Cert.Ret.τ).loc Cert.Ret.main_arg4))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14)
      ∧ r.2.mem ((c.tc : Thread Cert.TailRefIdeal.nD Cert.TailRefIdeal.τ).loc Cert.TailRefIdeal.main_arg15) = m ((c.tc : Thread Cert.TailRefIdeal.nD Cert.TailRefIdeal.τ).loc Cert.TailRefIdeal.main_arg15))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Ret_RetIdeal : Prop :=
  IdealRules.named_const.Statement Cert.RetIdeal.κ "log_g0" .f32 0xBD020AEC#32 ((Real.log (31 / 32) : ℝ) : EReal)
  ∧ IdealRules.named_const.Statement Cert.RetIdeal.κ "log_g1" .f32 0xBC8102B3#32 ((Real.log (63 / 64) : ℝ) : EReal)
  ∧ IdealRules.named_const.Statement Cert.RetIdeal.κ "log_g2" .f32 0xBC0080AC#32 ((Real.log (127 / 128) : ℝ) : EReal)
  ∧ IdealRules.named_const.Statement Cert.RetIdeal.κ "log_g3" .f32 0xBB80402B#32 ((Real.log (255 / 256) : ℝ) : EReal)
  ∧ IdealRules.named_const.Statement Cert.RetIdeal.κ "log_g4" .f32 0xBB00200B#32 ((Real.log (511 / 512) : ℝ) : EReal)
  ∧ IdealRules.named_const.Statement Cert.RetIdeal.κ "log_g5" .f32 0xBA801003#32 ((Real.log (1023 / 1024) : ℝ) : EReal)
  ∧ IdealRules.named_const.Statement Cert.RetIdeal.κ "log_g6" .f32 0xBA000801#32 ((Real.log (2047 / 2048) : ℝ) : EReal)
  ∧ IdealRules.named_const.Statement Cert.RetIdeal.κ "log_g7" .f32 0xB9800400#32 ((Real.log (4095 / 4096) : ℝ) : EReal)
  ∧ IdealRules.named_const.Statement Cert.RetIdeal.κ "chunk_g0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.RetIdeal.κ "chunk_g1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.RetIdeal.κ "chunk_g2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.RetIdeal.κ "chunk_g3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.RetIdeal.κ "chunk_g4" .f32 0x3F475303#32 ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  ∧ IdealRules.named_const.Statement Cert.RetIdeal.κ "chunk_g5" .f32 0x3F61E7C9#32 ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.RetIdeal.κ "chunk_g6" .f32 0x3F707C6F#32 ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  ∧ IdealRules.named_const.Statement Cert.RetIdeal.κ "chunk_g7" .f32 0x3F781F6D#32 ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)
      ∧ m' ((c.tc : Thread Cert.RetRefIdeal.nD Cert.RetRefIdeal.τ).loc Cert.RetRefIdeal.main_arg4) = m ((c.tc : Thread Cert.RetIdeal.nD Cert.RetIdeal.τ).loc Cert.RetIdeal.main_arg4)) →
    ∃ (v0 : (c : Dev Cert.RetIdeal.nD) → Buf (Elt Ideal) ((c.tc : Thread Cert.RetIdeal.nD Cert.RetIdeal.τ).loc Cert.RetIdeal.main_v0)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v0) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
          ∧ r.2.mem ((c.tc : Thread Cert.RetIdeal.nD Cert.RetIdeal.τ).loc Cert.RetIdeal.main_arg4) = m ((c.tc : Thread Cert.RetIdeal.nD Cert.RetIdeal.τ).loc Cert.RetIdeal.main_arg4))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v83) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3)
          ∧ r.2.mem ((c.tc : Thread Cert.RetRefIdeal.nD Cert.RetRefIdeal.τ).loc Cert.RetRefIdeal.main_arg4) = m' ((c.tc : Thread Cert.RetRefIdeal.nD Cert.RetRefIdeal.τ).loc Cert.RetRefIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)
      ∧ m' ((c.tc : Thread Cert.TailRefIdeal.nD Cert.TailRefIdeal.τ).loc Cert.TailRefIdeal.main_arg15) = m ((c.tc : Thread Cert.TailIdeal.nD Cert.TailIdeal.τ).loc Cert.TailIdeal.main_arg15)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v88) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14)
          ∧ r.2.mem ((c.tc : Thread Cert.TailRefIdeal.nD Cert.TailRefIdeal.τ).loc Cert.TailRefIdeal.main_arg15) = m' ((c.tc : Thread Cert.TailRefIdeal.nD Cert.TailRefIdeal.τ).loc Cert.TailRefIdeal.main_arg15))

def preserves_Proj_ProjIdeal : Prop :=
  IdealRules.named_const.Statement Cert.ProjIdeal.κ "inv_sqrt_dk" .f32 0x3DB504F3#32 (((Real.sqrt 128)⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v29_0)) (v1 : (c : Dev Cert.ProjIdeal.nD) → Buf (Elt Ideal) ((c.tc : Thread Cert.ProjIdeal.nD Cert.ProjIdeal.τ).loc Cert.ProjIdeal.main_v29_1)) (v2 : (c : Dev Cert.ProjIdeal.nD) → Buf (Elt Ideal) ((c.tc : Thread Cert.ProjIdeal.nD Cert.ProjIdeal.τ).loc Cert.ProjIdeal.main_v29_2)) (v3 : (c : Dev Cert.ProjIdeal.nD) → Buf (Elt Ideal) ((c.tc : Thread Cert.ProjIdeal.nD Cert.ProjIdeal.τ).loc Cert.ProjIdeal.main_v29_3)) (v4 : (c : Dev Cert.ProjIdeal.nD) → Buf (Elt Ideal) ((c.tc : Thread Cert.ProjIdeal.nD Cert.ProjIdeal.τ).loc Cert.ProjIdeal.main_v29_4)) (v5 : (c : Dev Cert.ProjIdeal.nD) → Buf (Elt Ideal) ((c.tc : Thread Cert.ProjIdeal.nD Cert.ProjIdeal.τ).loc Cert.ProjIdeal.main_v29_5)) (v6 : (c : Dev Cert.ProjIdeal.nD) → Buf (Elt Ideal) ((c.tc : Thread Cert.ProjIdeal.nD Cert.ProjIdeal.τ).loc Cert.ProjIdeal.main_v29_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v29_0) = v0 c
          ∧ r.2.mem ((c.tc : Thread Cert.ProjIdeal.nD Cert.ProjIdeal.τ).loc Cert.ProjIdeal.main_v29_1) = v1 c
          ∧ r.2.mem ((c.tc : Thread Cert.ProjIdeal.nD Cert.ProjIdeal.τ).loc Cert.ProjIdeal.main_v29_2) = v2 c
          ∧ r.2.mem ((c.tc : Thread Cert.ProjIdeal.nD Cert.ProjIdeal.τ).loc Cert.ProjIdeal.main_v29_3) = v3 c
          ∧ r.2.mem ((c.tc : Thread Cert.ProjIdeal.nD Cert.ProjIdeal.τ).loc Cert.ProjIdeal.main_v29_4) = v4 c
          ∧ r.2.mem ((c.tc : Thread Cert.ProjIdeal.nD Cert.ProjIdeal.τ).loc Cert.ProjIdeal.main_v29_5) = v5 c
          ∧ r.2.mem ((c.tc : Thread Cert.ProjIdeal.nD Cert.ProjIdeal.τ).loc Cert.ProjIdeal.main_v29_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v160) = v0 c
          ∧ r.2.mem ((c.tc : Thread Cert.ProjRefIdeal.nD Cert.ProjRefIdeal.τ).loc Cert.ProjRefIdeal.main_v161) = v1 c
          ∧ r.2.mem ((c.tc : Thread Cert.ProjRefIdeal.nD Cert.ProjRefIdeal.τ).loc Cert.ProjRefIdeal.main_v162) = v2 c
          ∧ r.2.mem ((c.tc : Thread Cert.ProjRefIdeal.nD Cert.ProjRefIdeal.τ).loc Cert.ProjRefIdeal.main_v163) = v3 c
          ∧ r.2.mem ((c.tc : Thread Cert.ProjRefIdeal.nD Cert.ProjRefIdeal.τ).loc Cert.ProjRefIdeal.main_v164) = v4 c
          ∧ r.2.mem ((c.tc : Thread Cert.ProjRefIdeal.nD Cert.ProjRefIdeal.τ).loc Cert.ProjRefIdeal.main_v165) = v5 c
          ∧ r.2.mem ((c.tc : Thread Cert.ProjRefIdeal.nD Cert.ProjRefIdeal.τ).loc Cert.ProjRefIdeal.main_v171) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hRet : Cert.Ret.Facts) (hRetIdeal : Cert.RetIdeal.Facts) (hRetRefIdeal : Cert.RetRefIdeal.Facts) (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts),
    quiescent_Ret (hRet := hRet)
    ∧ quiescent_RetIdeal (hRetIdeal := hRetIdeal)
    ∧ quiescent_RetRefIdeal (hRetRefIdeal := hRetRefIdeal)
    ∧ quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ preserves_Ret_RetIdeal
    ∧ algebraic_RetIdeal_RetRefIdeal (hRetIdeal := hRetIdeal) (hRetRefIdeal := hRetRefIdeal)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
-- ==== Ret.lean ====
abbrev S32x2048x1024 : Shape := ⟨3, ![32, 2048, 1024]⟩
abbrev S32x2048x2048 : Shape := ⟨3, ![32, 2048, 2048]⟩
abbrev S1x2048 : Shape := ⟨2, ![1, 2048]⟩
abbrev S1x128x1024 : Shape := ⟨3, ![1, 128, 1024]⟩
abbrev S1x128x2048 : Shape := ⟨3, ![1, 128, 2048]⟩
abbrev S8x128x256 : Shape := ⟨3, ![8, 128, 256]⟩
abbrev S8x128x128 : Shape := ⟨3, ![8, 128, 128]⟩
abbrev S128x128 : Shape := ⟨2, ![128, 128]⟩
abbrev S1x128x128 : Shape := ⟨3, ![1, 128, 128]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S1x256 : Shape := ⟨2, ![1, 256]⟩

abbrev nBuf : Space → Nat
  | .hbm => 6
  | .vmem => 15
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S32x2048x2048, .bf16⟩
  | .hbm, ⟨3, _⟩ => ⟨S32x2048x2048, .bf16⟩
  | .hbm, ⟨4, _⟩ => ⟨S1x2048, .f32⟩
  | .hbm, ⟨5, _⟩ => ⟨S32x2048x2048, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x2048, .f32⟩
  | .local _ .vmem, ⟨9, _⟩ => ⟨S1x128x2048, .bf16⟩
  | .local _ .vmem, ⟨10, _⟩ => ⟨S1x128x2048, .bf16⟩
  | .local _ .vmem, ⟨11, _⟩ => ⟨S8x128x256, .f32⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetIdeal.lean ====
variable {F : FTy → Type} [FloatOps F] [Named F]
def κ : String → Option EReal := fun
  | "chunk_g0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "chunk_g1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "chunk_g2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "chunk_g3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "chunk_g4" => some ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  | "chunk_g5" => some ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "chunk_g6" => some ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  | "chunk_g7" => some ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | "log_g4" => some ((Real.log (511 / 512) : ℝ) : EReal)
  | "log_g5" => some ((Real.log (1023 / 1024) : ℝ) : EReal)
  | "log_g6" => some ((Real.log (2047 / 2048) : ℝ) : EReal)
  | "log_g7" => some ((Real.log (4095 / 4096) : ℝ) : EReal)
  | _ => none
-- ==== RetRefIdeal.lean ====
abbrev S32x2048x1024 : Shape := ⟨3, ![32, 2048, 1024]⟩
abbrev S32x2048x2048 : Shape := ⟨3, ![32, 2048, 2048]⟩
abbrev S1x2048 : Shape := ⟨2, ![1, 2048]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S32x16x128x8x128 : Shape := ⟨5, ![32, 16, 128, 8, 128]⟩
abbrev S16x32x8x128x128 : Shape := ⟨5, ![16, 32, 8, 128, 128]⟩
abbrev S32x16x128x8x256 : Shape := ⟨5, ![32, 16, 128, 8, 256]⟩
abbrev S16x32x8x128x256 : Shape := ⟨5, ![16, 32, 8, 128, 256]⟩
abbrev S32x8x128x256 : Shape := ⟨4, ![32, 8, 128, 256]⟩
abbrev S1x32x8x128x128 : Shape := ⟨5, ![1, 32, 8, 128, 128]⟩
abbrev S32x8x128x128 : Shape := ⟨4, ![32, 8, 128, 128]⟩
abbrev S1x32x8x128x256 : Shape := ⟨5, ![1, 32, 8, 128, 256]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S32x2048x8x256 : Shape := ⟨4, ![32, 2048, 8, 256]⟩
abbrev S32x2048x8 : Shape := ⟨3, ![32, 2048, 8]⟩
abbrev S32x2048x8x1 : Shape := ⟨4, ![32, 2048, 8, 1]⟩
abbrev S1x1x2048 : Shape := ⟨3, ![1, 1, 2048]⟩

abbrev nBuf : Space → Nat
  | .hbm => 172
  | .vmem => 0
  | .smem => 0
  | _ => 0

abbrev hbmTy0_0 (i : Nat) : BufTy := match i % 128 with
  | 0 => ⟨S32x2048x1024, .bf16⟩
  | 1 => ⟨S32x2048x1024, .bf16⟩
  | 2 => ⟨S32x2048x2048, .bf16⟩
  | 3 => ⟨S32x2048x2048, .bf16⟩
  | 4 => ⟨S1x2048, .f32⟩
  | 5 => ⟨S32x2048x1024, .f32⟩
  | 6 => ⟨S32x2048x1024, .f32⟩
  | 7 => ⟨S32x2048x2048, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S128, .f32⟩
  | 20 => ⟨S128x1, .f32⟩
  | 21 => ⟨S1x128, .f32⟩
  | 22 => ⟨S128x128, .f32⟩
  | 23 => ⟨S128x128, .f32⟩
  | 24 => ⟨S128x128, .f32⟩
  | 25 => ⟨S_, .f32⟩
  | 26 => ⟨S128x128, .f32⟩
  | 27 => ⟨S128x128, .i1⟩
  | 28 => ⟨S_, .f32⟩
  | 29 => ⟨S128x128, .f32⟩
  | 30 => ⟨S128x128, .f32⟩
  | 31 => ⟨S1x128x128, .f32⟩
  | 32 => ⟨S8x1x1, .f32⟩
  | 33 => ⟨S8x128x128, .f32⟩
  | 34 => ⟨S8x128x128, .f32⟩
  | 35 => ⟨S8x128x128, .f32⟩
  | 36 => ⟨S8x128x128, .f32⟩
  | 37 => ⟨S_, .f32⟩
  | 38 => ⟨S_, .f32⟩
  | 39 => ⟨S8x128x128, .i1⟩
  | 40 => ⟨S8x128x128, .f32⟩
  | 41 => ⟨S8x128x128, .f32⟩
  | 42 => ⟨S_, .f32⟩
  | 43 => ⟨S128, .f32⟩
  | 44 => ⟨S128, .f32⟩
  | 45 => ⟨S1x128, .f32⟩
  | 46 => ⟨S8x1, .f32⟩
  | 47 => ⟨S8x128, .f32⟩
  | 48 => ⟨S8x128, .f32⟩
  | 49 => ⟨S8x128, .f32⟩
  | 50 => ⟨S8x128, .f32⟩
  | 51 => ⟨S_, .f32⟩
  | 52 => ⟨S128, .f32⟩
  | 53 => ⟨S128, .f32⟩
  | 54 => ⟨S1x128, .f32⟩
  | 55 => ⟨S8x1, .f32⟩
  | 56 => ⟨S8x128, .f32⟩
  | 57 => ⟨S8x128, .f32⟩
  | 58 => ⟨S8x128, .f32⟩
  | 59 => ⟨S8x128, .f32⟩
  | 60 => ⟨S_, .f32⟩
  | 61 => ⟨S8, .f32⟩
  | 62 => ⟨S8, .f32⟩
  | 63 => ⟨S8, .f32⟩
  | 64 => ⟨S32x16x128x8x128, .f32⟩
  | 65 => ⟨S16x32x8x128x128, .f32⟩
  | 66 => ⟨S32x16x128x8x128, .f32⟩
  | 67 => ⟨S16x32x8x128x128, .f32⟩
  | 68 => ⟨S32x16x128x8x256, .f32⟩
  | 69 => ⟨S16x32x8x128x256, .f32⟩
  | 70 => ⟨S_, .f32⟩
  | 71 => ⟨S32x8x128x256, .f32⟩
  | 72 => ⟨S_, .f32⟩
  | 73 => ⟨S16x32x8x128x256, .f32⟩
  | 74 => ⟨S_, .i32⟩
  | 75 => ⟨S16x32x8x128x128, .f32⟩
  | 76 => ⟨S16x32x8x128x128, .f32⟩
  | 77 => ⟨S16x32x8x128x256, .f32⟩
  | 78 => ⟨S8x128x128, .f32⟩
  | 79 => ⟨S8x128, .f32⟩
  | 80 => ⟨S8, .f32⟩
  | 81 => ⟨S8x128, .f32⟩
  | 82 => ⟨S_, .i32⟩
  | 83 => ⟨S32x8x128x256, .f32⟩
  | 84 => ⟨S16x32x8x128x256, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x32x8x128x128, .f32⟩
  | 92 => ⟨S32x8x128x128, .f32⟩
  | 93 => ⟨S_, .i32⟩
  | 94 => ⟨S_, .i32⟩
  | 95 => ⟨S_, .i32⟩
  | 96 => ⟨S_, .i32⟩
  | 97 => ⟨S1x32x8x128x128, .f32⟩
  | 98 => ⟨S32x8x128x128, .f32⟩
  | 99 => ⟨S_, .i32⟩
  | 100 => ⟨S_, .i32⟩
  | 101 => ⟨S_, .i32⟩
  | 102 => ⟨S_, .i32⟩
  | 103 => ⟨S1x32x8x128x256, .f32⟩
  | 104 => ⟨S32x8x128x256, .f32⟩
  | 105 => ⟨S32x8x128x128, .f32⟩
  | 106 => ⟨S1x8x128x128, .f32⟩
  | 107 => ⟨S32x8x128x128, .f32⟩
  | 108 => ⟨S32x8x128x128, .f32⟩
  | 109 => ⟨S32x8x128x256, .f32⟩
  | 110 => ⟨S32x8x128x256, .f32⟩
  | 111 => ⟨S1x8x128x1, .f32⟩
  | 112 => ⟨S32x8x128x256, .f32⟩
  | 113 => ⟨S32x8x128x256, .f32⟩
  | 114 => ⟨S32x8x128x256, .f32⟩
  | 115 => ⟨S1x8x1x1, .f32⟩
  | 116 => ⟨S32x8x128x256, .f32⟩
  | 117 => ⟨S32x8x128x256, .f32⟩
  | 118 => ⟨S1x8x128x1, .f32⟩
  | 119 => ⟨S32x8x128x128, .f32⟩
  | 120 => ⟨S32x8x128x128, .f32⟩
  | 121 => ⟨S32x8x128x256, .f32⟩
  | 122 => ⟨S32x8x128x256, .f32⟩
  | 123 => ⟨S1x32x8x128x256, .f32⟩
  | 124 => ⟨S_, .i32⟩
  | 125 => ⟨S_, .i32⟩
  | 126 => ⟨S_, .i32⟩
  | 127 => ⟨S_, .i32⟩
  | _ => ⟨S32x2048x1024, .bf16⟩

abbrev hbmTy0_1 (i : Nat) : BufTy := match i % 128 with
  | 0 => ⟨S16x32x8x128x256, .f32⟩
  | 1 => ⟨S_, .i32⟩
  | 2 => ⟨S_, .i32⟩
  | 3 => ⟨S32x16x128x8x256, .f32⟩
  | 4 => ⟨S32x2048x8x256, .f32⟩
  | 5 => ⟨S_, .f32⟩
  | 6 => ⟨S32x2048x8, .f32⟩
  | 7 => ⟨S32x2048x8x1, .f32⟩
  | 8 => ⟨S_, .f32⟩
  | 9 => ⟨S32x2048x8x1, .f32⟩
  | 10 => ⟨S32x2048x8x1, .f32⟩
  | 11 => ⟨S32x2048x8x256, .f32⟩
  | 12 => ⟨S32x2048x8x256, .f32⟩
  | 13 => ⟨S32x2048x8x256, .f32⟩
  | 14 => ⟨S_, .f32⟩
  | 15 => ⟨S32x2048x8, .f32⟩
  | 16 => ⟨S32x2048x8x1, .f32⟩
  | 17 => ⟨S_, .f32⟩
  | 18 => ⟨S32x2048x8x1, .f32⟩
  | 19 => ⟨S32x2048x8x1, .f32⟩
  | 20 => ⟨S32x2048x8x256, .f32⟩
  | 21 => ⟨S32x2048x8x256, .f32⟩
  | 22 => ⟨S_, .f32⟩
  | 23 => ⟨S32x2048x8x1, .f32⟩
  | 24 => ⟨S32x2048x8x1, .f32⟩
  | 25 => ⟨S32x2048x8x1, .f32⟩
  | 26 => ⟨S32x2048x8x256, .f32⟩
  | 27 => ⟨S32x2048x8x256, .f32⟩
  | 28 => ⟨S32x2048x2048, .f32⟩
  | 29 => ⟨S1x1x2048, .f32⟩
  | 30 => ⟨S32x2048x2048, .f32⟩
  | 31 => ⟨S32x2048x2048, .f32⟩
  | 32 => ⟨S32x2048x2048, .f32⟩
  | 33 => ⟨S32x2048x2048, .f32⟩
  | 34 => ⟨S32x2048x2048, .f32⟩
  | 35 => ⟨S_, .f32⟩
  | 36 => ⟨S32x2048x2048, .f32⟩
  | 37 => ⟨S32x2048x2048, .f32⟩
  | 38 => ⟨S_, .f32⟩
  | 39 => ⟨S32x2048x2048, .f32⟩
  | 40 => ⟨S32x2048x2048, .f32⟩
  | 41 => ⟨S32x2048x2048, .f32⟩
  | 42 => ⟨S32x2048x2048, .f32⟩
  | 43 => ⟨S32x2048x2048, .bf16⟩
  | _ => ⟨S32x2048x1024, .bf16⟩

abbrev hbmTy (i : Nat) : BufTy := match i / 128 with
  | 0 => hbmTy0_0 i
  | 1 => hbmTy0_1 i
  | _ => ⟨S32x2048x1024, .bf16⟩

abbrev bufTy : (tb : Table) → Fin (tcTables nBuf tb) → BufTy
  | .hbm, ⟨i, _⟩ => hbmTy i
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_c : Ref sig .tc := ⟨.hbm, 74, rfl⟩
abbrev main_v55_0 : Ref sig .tc := ⟨.hbm, 75, rfl⟩
abbrev main_v55_1 : Ref sig .tc := ⟨.hbm, 76, rfl⟩
abbrev main_v55_2 : Ref sig .tc := ⟨.hbm, 77, rfl⟩
abbrev main_v55_3 : Ref sig .tc := ⟨.hbm, 78, rfl⟩
abbrev main_v55_4 : Ref sig .tc := ⟨.hbm, 79, rfl⟩
abbrev main_v55_5 : Ref sig .tc := ⟨.hbm, 80, rfl⟩
abbrev main_v55_6 : Ref sig .tc := ⟨.hbm, 81, rfl⟩
abbrev main_v55_7 : Ref sig .tc := ⟨.hbm, 82, rfl⟩
abbrev main_v55_8 : Ref sig .tc := ⟨.hbm, 83, rfl⟩
abbrev main_v55_9 : Ref sig .tc := ⟨.hbm, 84, rfl⟩
abbrev main_while0c_c_24 : Ref sig .tc := ⟨.hbm, 85, rfl⟩
abbrev main_while0c_v84 : Ref sig .tc := ⟨.hbm, 86, rfl⟩
abbrev main_while0b_call1_c : Ref sig .tc := ⟨.hbm, 87, rfl⟩
abbrev main_while0b_call1_c_0 : Ref sig .tc := ⟨.hbm, 88, rfl⟩
abbrev main_while0b_call1_c_1 : Ref sig .tc := ⟨.hbm, 89, rfl⟩
abbrev main_while0b_call1_c_2 : Ref sig .tc := ⟨.hbm, 90, rfl⟩
abbrev main_while0b_call1_v0 : Ref sig .tc := ⟨.hbm, 91, rfl⟩
abbrev main_while0b_v84 : Ref sig .tc := ⟨.hbm, 92, rfl⟩
abbrev main_while0b_call2_c : Ref sig .tc := ⟨.hbm, 93, rfl⟩
abbrev main_while0b_call2_c_0 : Ref sig .tc := ⟨.hbm, 94, rfl⟩
abbrev main_while0b_call2_c_1 : Ref sig .tc := ⟨.hbm, 95, rfl⟩
abbrev main_while0b_call2_c_2 : Ref sig .tc := ⟨.hbm, 96, rfl⟩
abbrev main_while0b_call2_v0 : Ref sig .tc := ⟨.hbm, 97, rfl⟩
abbrev main_while0b_v85 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_c_2 : Ref sig .tc := ⟨.hbm, 102, rfl⟩
abbrev main_while0b_call3_v0 : Ref sig .tc := ⟨.hbm, 103, rfl⟩
abbrev main_while0b_v86 : Ref sig .tc := ⟨.hbm, 104, rfl⟩
abbrev main_while0b_v87 : Ref sig .tc := ⟨.hbm, 105, rfl⟩
abbrev main_while0b_v88 : Ref sig .tc := ⟨.hbm, 106, rfl⟩
abbrev main_while0b_v89 : Ref sig .tc := ⟨.hbm, 107, rfl⟩
abbrev main_while0b_v90 : Ref sig .tc := ⟨.hbm, 108, rfl⟩
abbrev main_while0b_v91 : Ref sig .tc := ⟨.hbm, 109, rfl⟩
abbrev main_while0b_v92 : Ref sig .tc := ⟨.hbm, 110, rfl⟩
abbrev main_while0b_v93 : Ref sig .tc := ⟨.hbm, 111, rfl⟩
abbrev main_while0b_v94 : Ref sig .tc := ⟨.hbm, 112, rfl⟩
abbrev main_while0b_v95 : Ref sig .tc := ⟨.hbm, 113, rfl⟩
abbrev main_while0b_v96 : Ref sig .tc := ⟨.hbm, 114, rfl⟩
abbrev main_while0b_v97 : Ref sig .tc := ⟨.hbm, 115, rfl⟩
abbrev main_while0b_v98 : Ref sig .tc := ⟨.hbm, 116, rfl⟩
abbrev main_while0b_v99 : Ref sig .tc := ⟨.hbm, 117, rfl⟩
abbrev main_while0b_v100 : Ref sig .tc := ⟨.hbm, 118, rfl⟩
abbrev main_while0b_v101 : Ref sig .tc := ⟨.hbm, 119, rfl⟩
abbrev main_while0b_v102 : Ref sig .tc := ⟨.hbm, 120, rfl⟩
abbrev main_while0b_v103 : Ref sig .tc := ⟨.hbm, 121, rfl⟩
abbrev main_while0b_v104 : Ref sig .tc := ⟨.hbm, 122, rfl⟩
abbrev main_while0b_call4_v0 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_v105 : Ref sig .tc := ⟨.hbm, 128, rfl⟩
abbrev main_while0b_c_24 : Ref sig .tc := ⟨.hbm, 129, rfl⟩
abbrev main_while0b_v106 : Ref sig .tc := ⟨.hbm, 130, rfl⟩
abbrev main_v56 : Ref sig .tc := ⟨.hbm, 131, rfl⟩
abbrev main_v57 : Ref sig .tc := ⟨.hbm, 132, rfl⟩
abbrev main_cst_10 : Ref sig .tc := ⟨.hbm, 133, rfl⟩
abbrev main_v58 : Ref sig .tc := ⟨.hbm, 134, rfl⟩
abbrev main_v59 : Ref sig .tc := ⟨.hbm, 135, rfl⟩
abbrev main_cst_11 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_cst_12 : Ref sig .tc := ⟨.hbm, 142, rfl⟩
abbrev main_v65 : Ref sig .tc := ⟨.hbm, 143, rfl⟩
abbrev main_v66 : Ref sig .tc := ⟨.hbm, 144, rfl⟩
abbrev main_cst_13 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_cst_14 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_call5_v0 : Ref sig .tc := ⟨.hbm, 161, rfl⟩
abbrev main_call5_v1 : Ref sig .tc := ⟨.hbm, 162, rfl⟩
abbrev main_call5_cst : Ref sig .tc := ⟨.hbm, 163, rfl⟩
abbrev main_call5_v2 : Ref sig .tc := ⟨.hbm, 164, rfl⟩
abbrev main_call5_v3 : Ref sig .tc := ⟨.hbm, 165, rfl⟩
abbrev main_call5_cst_0 : Ref sig .tc := ⟨.hbm, 166, rfl⟩
abbrev main_call5_v4 : Ref sig .tc := ⟨.hbm, 167, rfl⟩
abbrev main_call5_v5 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩

abbrev nD : Nat := 1
abbrev τ : Topo := Topo.v7x

variable {F : FTy → Type} [FloatOps F]

abbrev main_while0_count : Scf.Loop 32 := ⟨0#32, 16#32, 1#32⟩
-- ==== Tail.lean ====
abbrev S65536x1024 : Shape := ⟨2, ![65536, 1024]⟩
abbrev S65536x2048 : Shape := ⟨2, ![65536, 2048]⟩
abbrev S65536x256 : Shape := ⟨2, ![65536, 256]⟩
abbrev S1x1024 : Shape := ⟨2, ![1, 1024]⟩
abbrev S1024x2048 : Shape := ⟨2, ![1024, 2048]⟩
abbrev S2048x1024 : Shape := ⟨2, ![2048, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 17
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S65536x2048, .bf16⟩
  | .hbm, ⟨2, _⟩ => ⟨S65536x1024, .bf16⟩
  | .hbm, ⟨3, _⟩ => ⟨S65536x256, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x2048, .bf16⟩
  | .hbm, ⟨9, _⟩ => ⟨S2048x1024, .bf16⟩
  | .hbm, ⟨10, _⟩ => ⟨S1024x1024, .bf16⟩
  | .hbm, ⟨11, _⟩ => ⟨S1024x1024, .bf16⟩
  | .hbm, ⟨12, _⟩ => ⟨S1024x4096, .bf16⟩
  | .hbm, ⟨13, _⟩ => ⟨S4096x1024, .bf16⟩
  | .hbm, ⟨14, _⟩ => ⟨S1024x1024, .bf16⟩
  | .hbm, ⟨15, _⟩ => ⟨S256x1024, .bf16⟩
  | .hbm, ⟨16, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x256, .f32⟩
  | .local _ .vmem, ⟨7, _⟩ => ⟨S256x256, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x2048, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x4096, .bf16⟩
  | .local _ .vmem, ⟨17, _⟩ => ⟨S4096x1024, .bf16⟩
  | .local _ .vmem, ⟨18, _⟩ => ⟨S1024x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== TailRefIdeal.lean ====
abbrev S65536x1024 : Shape := ⟨2, ![65536, 1024]⟩
abbrev S65536x2048 : Shape := ⟨2, ![65536, 2048]⟩
abbrev S65536x256 : Shape := ⟨2, ![65536, 256]⟩
abbrev S1x1024 : Shape := ⟨2, ![1, 1024]⟩
abbrev S1024x2048 : Shape := ⟨2, ![1024, 2048]⟩
abbrev S2048x1024 : Shape := ⟨2, ![2048, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S65536x4096 : Shape := ⟨2, ![65536, 4096]⟩

abbrev nBuf : Space → Nat
  | .hbm => 123
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x2048, .bf16⟩
  | .hbm, ⟨2, _⟩ => ⟨S65536x1024, .bf16⟩
  | .hbm, ⟨3, _⟩ => ⟨S65536x256, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x2048, .bf16⟩
  | .hbm, ⟨9, _⟩ => ⟨S2048x1024, .bf16⟩
  | .hbm, ⟨10, _⟩ => ⟨S1024x1024, .bf16⟩
  | .hbm, ⟨11, _⟩ => ⟨S1024x1024, .bf16⟩
  | .hbm, ⟨12, _⟩ => ⟨S1024x4096, .bf16⟩
  | .hbm, ⟨13, _⟩ => ⟨S4096x1024, .bf16⟩
  | .hbm, ⟨14, _⟩ => ⟨S1024x1024, .bf16⟩
  | .hbm, ⟨15, _⟩ => ⟨S256x1024, .bf16⟩
  | .hbm, ⟨16, _⟩ => ⟨S65536x2048, .f32⟩
  | .hbm, ⟨17, _⟩ => ⟨S65536x1024, .f32⟩
  | .hbm, ⟨18, _⟩ => ⟨S1024x2048, .f32⟩
  | .hbm, ⟨19, _⟩ => ⟨S2048x1024, .f32⟩
  | .hbm, ⟨20, _⟩ => ⟨S1024x1024, .f32⟩
  | .hbm, ⟨21, _⟩ => ⟨S1024x1024, .f32⟩
  | .hbm, ⟨22, _⟩ => ⟨S1024x4096, .f32⟩
  | .hbm, ⟨23, _⟩ => ⟨S4096x1024, .f32⟩
  | .hbm, ⟨24, _⟩ => ⟨S1024x1024, .f32⟩
  | .hbm, ⟨25, _⟩ => ⟨S256x1024, .f32⟩
  | .hbm, ⟨26, _⟩ => ⟨S65536x1024, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S65536x2048, .f32⟩
  | .hbm, ⟨44, _⟩ => ⟨S65536x2048, .f32⟩
  | .hbm, ⟨45, _⟩ => ⟨S65536x2048, .f32⟩
  | .hbm, ⟨46, _⟩ => ⟨S_, .f32⟩
  | .hbm, ⟨47, _⟩ => ⟨S65536x2048, .f32⟩
  | .hbm, ⟨48, _⟩ => ⟨S65536x2048, .f32⟩
  | .hbm, ⟨49, _⟩ => ⟨S_, .f32⟩
  | .hbm, ⟨50, _⟩ => ⟨S65536x2048, .f32⟩
  | .hbm, ⟨51, _⟩ => ⟨S65536x2048, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536, .f32⟩
  | .hbm, ⟨62, _⟩ => ⟨S65536x1, .f32⟩
  | .hbm, ⟨63, _⟩ => ⟨S_, .f32⟩
  | .hbm, ⟨64, _⟩ => ⟨S65536x1, .f32⟩
  | .hbm, ⟨65, _⟩ => ⟨S65536x1, .f32⟩
  | .hbm, ⟨66, _⟩ => ⟨S_, .f32⟩
  | .hbm, ⟨67, _⟩ => ⟨S65536x1, .f32⟩
  | .hbm, ⟨68, _⟩ => ⟨S65536x1, .f32⟩
  | .hbm, ⟨69, _⟩ => ⟨S65536x1, .f32⟩
  | .hbm, ⟨70, _⟩ => ⟨S65536x1024, .f32⟩
  | .hbm, ⟨71, _⟩ => ⟨S65536x1024, .f32⟩
  | .hbm, ⟨72, _⟩ => ⟨S65536x1024, .f32⟩
  | .hbm, ⟨73, _⟩ => ⟨S65536x1024, .f32⟩
  | .hbm, ⟨74, _⟩ => ⟨S65536x4096, .f32⟩
  | .hbm, ⟨75, _⟩ => ⟨S_, .f32⟩
  | .hbm, ⟨76, _⟩ => ⟨S65536x4096, .f32⟩
  | .hbm, ⟨77, _⟩ => ⟨S65536x4096, .f32⟩
  | .hbm, ⟨78, _⟩ => ⟨S65536x4096, .f32⟩
  | .hbm, ⟨79, _⟩ => ⟨S65536x1024, .f32⟩
  | .hbm, ⟨80, _⟩ => ⟨S65536x1024, .f32⟩
  | .hbm, ⟨81, _⟩ => ⟨S65536x1024, .f32⟩
  | .hbm, ⟨82, _⟩ => ⟨S65536x1024, .f32⟩
  | .hbm, ⟨83, _⟩ => ⟨S_, .f32⟩
  | .hbm, ⟨84, _⟩ => ⟨S65536, .f32⟩
  | .hbm, ⟨85, _⟩ => ⟨S65536x1, .f32⟩
  | .hbm, ⟨86, _⟩ => ⟨S_, .f32⟩
  | .hbm, ⟨87, _⟩ => ⟨S65536x1, .f32⟩
  | .hbm, ⟨88, _⟩ => ⟨S65536x1, .f32⟩
  | .hbm, ⟨89, _⟩ => ⟨S_, .f32⟩
  | .hbm, ⟨90, _⟩ => ⟨S65536x1, .f32⟩
  | .hbm, ⟨91, _⟩ => ⟨S65536x1, .f32⟩
  | .hbm, ⟨92, _⟩ => ⟨S65536x1, .f32⟩
  | .hbm, ⟨93, _⟩ => ⟨S65536x1024, .f32⟩
  | .hbm, ⟨94, _⟩ => ⟨S65536x1024, .f32⟩
  | .hbm, ⟨95, _⟩ => ⟨S65536x1024, .f32⟩
  | .hbm, ⟨96, _⟩ => ⟨S65536x1024, .f32⟩
  | .hbm, ⟨97, _⟩ => ⟨S65536x1024, .f32⟩
  | .hbm, ⟨98, _⟩ => ⟨S65536x1024, .f32⟩
  | .hbm, ⟨99, _⟩ => ⟨S65536x1024, .f32⟩
  | .hbm, ⟨100, _⟩ => ⟨S_, .f32⟩
  | .hbm, ⟨101, _⟩ => ⟨S65536x1024, .f32⟩
  | .hbm, ⟨102, _⟩ => ⟨S65536x1024, .f32⟩
  | .hbm, ⟨103, _⟩ => ⟨S_, .f32⟩
  | .hbm, ⟨104, _⟩ => ⟨S65536x1024, .f32⟩
  | .hbm, ⟨105, _⟩ => ⟨S65536x1024, .f32⟩
  | .hbm, ⟨106, _⟩ => ⟨S65536x1024, .f32⟩
  | .hbm, ⟨107, _⟩ => ⟨S65536x1024, .f32⟩
  | .hbm, ⟨108, _⟩ => ⟨S65536x1024, .f32⟩
  | .hbm, ⟨109, _⟩ => ⟨S_, .f32⟩
  | .hbm, ⟨110, _⟩ => ⟨S65536, .f32⟩
  | .hbm, ⟨111, _⟩ => ⟨S65536x1, .f32⟩
  | .hbm, ⟨112, _⟩ => ⟨S_, .f32⟩
  | .hbm, ⟨113, _⟩ => ⟨S65536x1, .f32⟩
  | .hbm, ⟨114, _⟩ => ⟨S65536x1, .f32⟩
  | .hbm, ⟨115, _⟩ => ⟨S_, .f32⟩
  | .hbm, ⟨116, _⟩ => ⟨S65536x1, .f32⟩
  | .hbm, ⟨117, _⟩ => ⟨S65536x1, .f32⟩
  | .hbm, ⟨118, _⟩ => ⟨S65536x1, .f32⟩
  | .hbm, ⟨119, _⟩ => ⟨S65536x1024, .f32⟩
  | .hbm, ⟨120, _⟩ => ⟨S65536x1024, .f32⟩
  | .hbm, ⟨121, _⟩ => ⟨S65536x1024, .f32⟩
  | .hbm, ⟨122, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call0_cst : Ref sig .tc := ⟨.hbm, 75, rfl⟩
abbrev main_call0_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_v58 : Ref sig .tc := ⟨.hbm, 85, rfl⟩
abbrev main_cst_8 : Ref sig .tc := ⟨.hbm, 86, rfl⟩
abbrev main_v59 : Ref sig .tc := ⟨.hbm, 87, rfl⟩
abbrev main_v60 : Ref sig .tc := ⟨.hbm, 88, rfl⟩
abbrev main_cst_9 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_10 : Ref sig .tc := ⟨.hbm, 100, rfl⟩
abbrev main_v71 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_12 : Ref sig .tc := ⟨.hbm, 109, rfl⟩
abbrev main_v78 : Ref sig .tc := ⟨.hbm, 110, rfl⟩
abbrev main_v79 : Ref sig .tc := ⟨.hbm, 111, rfl⟩
abbrev main_cst_13 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]
-- ==== Proj.lean ====
abbrev S65536x1024 : Shape := ⟨2, ![65536, 1024]⟩
abbrev S65536x1 : Shape := ⟨2, ![65536, 1]⟩
abbrev S1x1024 : Shape := ⟨2, ![1, 1024]⟩
abbrev S1024x8192 : Shape := ⟨2, ![1024, 8192]⟩
abbrev S64 : Shape := ⟨1, ![64]⟩
abbrev S_ : Shape := ⟨0, ![]⟩
abbrev S32 : Shape := ⟨1, ![32]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x32 : Shape := ⟨2, ![1, 32]⟩
abbrev S4x32 : Shape := ⟨2, ![4, 32]⟩
abbrev S65536x2048 : Shape := ⟨2, ![65536, 2048]⟩
abbrev S65536x768 : Shape := ⟨2, ![65536, 768]⟩
abbrev S65536x256 : Shape := ⟨2, ![65536, 256]⟩
abbrev S256x1024 : Shape := ⟨2, ![256, 1024]⟩
abbrev S256x1 : Shape := ⟨2, ![256, 1]⟩
abbrev S256x2048 : Shape := ⟨2, ![256, 2048]⟩
abbrev S256x768 : Shape := ⟨2, ![256, 768]⟩
abbrev S256x256 : Shape := ⟨2, ![256, 256]⟩
abbrev S256 : Shape := ⟨1, ![256]⟩
abbrev S256x128 : Shape := ⟨2, ![256, 128]⟩
abbrev S1024x512 : Shape := ⟨2, ![1024, 512]⟩
abbrev S256x512 : Shape := ⟨2, ![256, 512]⟩

abbrev nBuf : Space → Nat
  | .hbm => 48
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S65536x1, .i32⟩
  | .hbm, ⟨2, _⟩ => ⟨S1x1024, .f32⟩
  | .hbm, ⟨3, _⟩ => ⟨S1024x8192, .bf16⟩
  | .hbm, ⟨4, _⟩ => ⟨S65536x1, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S1x64, .f32⟩
  | .hbm, ⟨34, _⟩ => ⟨S2x64, .f32⟩
  | .hbm, ⟨35, _⟩ => ⟨S128, .f32⟩
  | .hbm, ⟨36, _⟩ => ⟨S1x128, .f32⟩
  | .hbm, ⟨37, _⟩ => ⟨S1x32, .f32⟩
  | .hbm, ⟨38, _⟩ => ⟨S4x32, .f32⟩
  | .hbm, ⟨39, _⟩ => ⟨S128, .f32⟩
  | .hbm, ⟨40, _⟩ => ⟨S1x128, .f32⟩
  | .hbm, ⟨41, _⟩ => ⟨S65536x1024, .bf16⟩
  | .hbm, ⟨42, _⟩ => ⟨S65536x1024, .bf16⟩
  | .hbm, ⟨43, _⟩ => ⟨S65536x2048, .bf16⟩
  | .hbm, ⟨44, _⟩ => ⟨S65536x2048, .bf16⟩
  | .hbm, ⟨45, _⟩ => ⟨S65536x1024, .bf16⟩
  | .hbm, ⟨46, _⟩ => ⟨S65536x768, .bf16⟩
  | .hbm, ⟨47, _⟩ => ⟨S65536x256, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S1x1024, .f32⟩
  | .local _ .vmem, ⟨5, _⟩ => ⟨S1x128, .f32⟩
  | .local _ .vmem, ⟨6, _⟩ => ⟨S1x128, .f32⟩
  | .local _ .vmem, ⟨7, _⟩ => ⟨S1024x8192, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x1024, .bf16⟩
  | .local _ .vmem, ⟨17, _⟩ => ⟨S256x1024, .bf16⟩
  | .local _ .vmem, ⟨18, _⟩ => ⟨S256x768, .bf16⟩
  | .local _ .vmem, ⟨19, _⟩ => ⟨S256x768, .bf16⟩
  | .local _ .vmem, ⟨20, _⟩ => ⟨S256x256, .f32⟩
  | .local _ .vmem, ⟨21, _⟩ => ⟨S256x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev main_v29_5 : Ref sig .tc := ⟨.hbm, 46, rfl⟩
abbrev main_v29_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjIdeal.lean ====
variable {F : FTy → Type} [FloatOps F] [Named F]
def κ : String → Option EReal := fun
  | "inv_sqrt_dk" => some (((Real.sqrt 128)⁻¹ : ℝ) : EReal)
  | _ => none
-- ==== ProjRefIdeal.lean ====
abbrev S65536x1024 : Shape := ⟨2, ![65536, 1024]⟩
abbrev S65536x1 : Shape := ⟨2, ![65536, 1]⟩
abbrev S1x1024 : Shape := ⟨2, ![1, 1024]⟩
abbrev S1024x8192 : Shape := ⟨2, ![1024, 8192]⟩
abbrev S64 : Shape := ⟨1, ![64]⟩
abbrev S_ : Shape := ⟨0, ![]⟩
abbrev S1x64 : Shape := ⟨2, ![1, 64]⟩
abbrev S65536x64 : Shape := ⟨2, ![65536, 64]⟩
abbrev S65536x1x64 : Shape := ⟨3, ![65536, 1, 64]⟩
abbrev S32 : Shape := ⟨1, ![32]⟩
abbrev S1x32 : Shape := ⟨2, ![1, 32]⟩
abbrev S65536x32 : Shape := ⟨2, ![65536, 32]⟩
abbrev S65536x1x32 : Shape := ⟨3, ![65536, 1, 32]⟩
abbrev S65536 : Shape := ⟨1, ![65536]⟩
abbrev S65536x8192 : Shape := ⟨2, ![65536, 8192]⟩
abbrev S65536x2048 : Shape := ⟨2, ![65536, 2048]⟩
abbrev S65536x128 : Shape := ⟨2, ![65536, 128]⟩
abbrev S65536x256 : Shape := ⟨2, ![65536, 256]⟩
abbrev S65536x8x128 : Shape := ⟨3, ![65536, 8, 128]⟩
abbrev S65536x8x64 : Shape := ⟨3, ![65536, 8, 64]⟩
abbrev S65536x16x64 : Shape := ⟨3, ![65536, 16, 64]⟩
abbrev S65536x16x32 : Shape := ⟨3, ![65536, 16, 32]⟩
abbrev S65536x2x64 : Shape := ⟨3, ![65536, 2, 64]⟩
abbrev S65536x2x32 : Shape := ⟨3, ![65536, 2, 32]⟩
abbrev S65536x768 : Shape := ⟨2, ![65536, 768]⟩

abbrev nBuf : Space → Nat
  | .hbm => 191
  | .vmem => 0
  | .smem => 0
  | _ => 0

abbrev hbmTy0_0 (i : Nat) : BufTy := match i % 128 with
  | 0 => ⟨S65536x1024, .f32⟩
  | 1 => ⟨S65536x1, .i32⟩
  | 2 => ⟨S1x1024, .f32⟩
  | 3 => ⟨S1024x8192, .bf16⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S65536x1, .f32⟩
  | 19 => ⟨S1x64, .f32⟩
  | 20 => ⟨S65536x64, .f32⟩
  | 21 => ⟨S65536x64, .f32⟩
  | 22 => ⟨S65536x64, .f32⟩
  | 23 => ⟨S65536x64, .f32⟩
  | 24 => ⟨S65536x1x64, .f32⟩
  | 25 => ⟨S65536x64, .f32⟩
  | 26 => ⟨S65536x1x64, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S65536x1, .f32⟩
  | 42 => ⟨S1x32, .f32⟩
  | 43 => ⟨S65536x32, .f32⟩
  | 44 => ⟨S65536x32, .f32⟩
  | 45 => ⟨S65536x32, .f32⟩
  | 46 => ⟨S65536x32, .f32⟩
  | 47 => ⟨S65536x1x32, .f32⟩
  | 48 => ⟨S65536x32, .f32⟩
  | 49 => ⟨S65536x1x32, .f32⟩
  | 50 => ⟨S65536x1024, .f32⟩
  | 51 => ⟨S_, .f32⟩
  | 52 => ⟨S65536, .f32⟩
  | 53 => ⟨S65536x1, .f32⟩
  | 54 => ⟨S_, .f32⟩
  | 55 => ⟨S65536x1, .f32⟩
  | 56 => ⟨S65536x1, .f32⟩
  | 57 => ⟨S_, .f32⟩
  | 58 => ⟨S65536x1, .f32⟩
  | 59 => ⟨S65536x1, .f32⟩
  | 60 => ⟨S65536x1, .f32⟩
  | 61 => ⟨S65536x1024, .f32⟩
  | 62 => ⟨S65536x1024, .f32⟩
  | 63 => ⟨S65536x1024, .f32⟩
  | 64 => ⟨S65536x1024, .f32⟩
  | 65 => ⟨S1024x8192, .f32⟩
  | 66 => ⟨S65536x8192, .f32⟩
  | 67 => ⟨S65536x1024, .f32⟩
  | 68 => ⟨S65536x1024, .f32⟩
  | 69 => ⟨S65536x2048, .f32⟩
  | 70 => ⟨S65536x2048, .f32⟩
  | 71 => ⟨S65536x1024, .f32⟩
  | 72 => ⟨S65536x128, .f32⟩
  | 73 => ⟨S65536x128, .f32⟩
  | 74 => ⟨S65536x128, .f32⟩
  | 75 => ⟨S65536x128, .f32⟩
  | 76 => ⟨S65536x128, .f32⟩
  | 77 => ⟨S65536x128, .f32⟩
  | 78 => ⟨S65536x256, .f32⟩
  | 79 => ⟨S65536x8x128, .f32⟩
  | 80 => ⟨S65536x8x64, .f32⟩
  | 81 => ⟨S65536x8x64, .f32⟩
  | 82 => ⟨S65536x8x64, .f32⟩
  | 83 => ⟨S65536x8x64, .f32⟩
  | 84 => ⟨S65536x8x64, .f32⟩
  | 85 => ⟨S65536x8x64, .f32⟩
  | 86 => ⟨S65536x8x64, .f32⟩
  | 87 => ⟨S65536x8x64, .f32⟩
  | 88 => ⟨S65536x8x64, .f32⟩
  | 89 => ⟨S65536x8x64, .f32⟩
  | 90 => ⟨S65536x8x64, .f32⟩
  | 91 => ⟨S65536x8x64, .f32⟩
  | 92 => ⟨S65536x8x128, .f32⟩
  | 93 => ⟨S65536x1024, .f32⟩
  | 94 => ⟨S65536x8x128, .f32⟩
  | 95 => ⟨S65536x8x64, .f32⟩
  | 96 => ⟨S65536x8x64, .f32⟩
  | 97 => ⟨S65536x8x64, .f32⟩
  | 98 => ⟨S65536x8x64, .f32⟩
  | 99 => ⟨S65536x8x64, .f32⟩
  | 100 => ⟨S65536x8x64, .f32⟩
  | 101 => ⟨S65536x8x64, .f32⟩
  | 102 => ⟨S65536x8x64, .f32⟩
  | 103 => ⟨S65536x8x64, .f32⟩
  | 104 => ⟨S65536x8x64, .f32⟩
  | 105 => ⟨S65536x8x64, .f32⟩
  | 106 => ⟨S65536x8x64, .f32⟩
  | 107 => ⟨S65536x8x128, .f32⟩
  | 108 => ⟨S65536x1024, .f32⟩
  | 109 => ⟨S_, .f32⟩
  | 110 => ⟨S_, .f32⟩
  | 111 => ⟨S65536x1024, .f32⟩
  | 112 => ⟨S65536x1024, .f32⟩
  | 113 => ⟨S65536x16x64, .f32⟩
  | 114 => ⟨S65536x16x32, .f32⟩
  | 115 => ⟨S65536x16x32, .f32⟩
  | 116 => ⟨S65536x16x32, .f32⟩
  | 117 => ⟨S65536x16x32, .f32⟩
  | 118 => ⟨S65536x16x32, .f32⟩
  | 119 => ⟨S65536x16x32, .f32⟩
  | 120 => ⟨S65536x16x32, .f32⟩
  | 121 => ⟨S65536x16x32, .f32⟩
  | 122 => ⟨S65536x16x32, .f32⟩
  | 123 => ⟨S65536x16x32, .f32⟩
  | 124 => ⟨S65536x16x32, .f32⟩
  | 125 => ⟨S65536x16x32, .f32⟩
  | 126 => ⟨S65536x16x64, .f32⟩
  | 127 => ⟨S65536x1024, .f32⟩
  | _ => ⟨S65536x1024, .f32⟩

abbrev hbmTy0_1 (i : Nat) : BufTy := match i % 128 with
  | 0 => ⟨S_, .f32⟩
  | 1 => ⟨S65536x1024, .f32⟩
  | 2 => ⟨S65536x1024, .f32⟩
  | 3 => ⟨S65536x2x64, .f32⟩
  | 4 => ⟨S65536x2x32, .f32⟩
  | 5 => ⟨S65536x2x32, .f32⟩
  | 6 => ⟨S65536x2x32, .f32⟩
  | 7 => ⟨S65536x2x32, .f32⟩
  | 8 => ⟨S65536x2x32, .f32⟩
  | 9 => ⟨S65536x2x32, .f32⟩
  | 10 => ⟨S65536x2x32, .f32⟩
  | 11 => ⟨S65536x2x32, .f32⟩
  | 12 => ⟨S65536x2x32, .f32⟩
  | 13 => ⟨S65536x2x32, .f32⟩
  | 14 => ⟨S65536x2x32, .f32⟩
  | 15 => ⟨S65536x2x32, .f32⟩
  | 16 => ⟨S65536x2x64, .f32⟩
  | 17 => ⟨S65536x128, .f32⟩
  | 18 => ⟨S65536x2x64, .f32⟩
  | 19 => ⟨S65536x2x32, .f32⟩
  | 20 => ⟨S65536x2x32, .f32⟩
  | 21 => ⟨S65536x2x32, .f32⟩
  | 22 => ⟨S65536x2x32, .f32⟩
  | 23 => ⟨S65536x2x32, .f32⟩
  | 24 => ⟨S65536x2x32, .f32⟩
  | 25 => ⟨S65536x2x32, .f32⟩
  | 26 => ⟨S65536x2x32, .f32⟩
  | 27 => ⟨S65536x2x32, .f32⟩
  | 28 => ⟨S65536x2x32, .f32⟩
  | 29 => ⟨S65536x2x32, .f32⟩
  | 30 => ⟨S65536x2x32, .f32⟩
  | 31 => ⟨S65536x2x64, .f32⟩
  | 32 => ⟨S65536x128, .f32⟩
  | 33 => ⟨S65536x2x64, .f32⟩
  | 34 => ⟨S65536x2x32, .f32⟩
  | 35 => ⟨S65536x2x32, .f32⟩
  | 36 => ⟨S65536x2x32, .f32⟩
  | 37 => ⟨S65536x2x32, .f32⟩
  | 38 => ⟨S65536x2x32, .f32⟩
  | 39 => ⟨S65536x2x32, .f32⟩
  | 40 => ⟨S65536x2x32, .f32⟩
  | 41 => ⟨S65536x2x32, .f32⟩
  | 42 => ⟨S65536x2x32, .f32⟩
  | 43 => ⟨S65536x2x32, .f32⟩
  | 44 => ⟨S65536x2x32, .f32⟩
  | 45 => ⟨S65536x2x32, .f32⟩
  | 46 => ⟨S65536x2x64, .f32⟩
  | 47 => ⟨S65536x128, .f32⟩
  | 48 => ⟨S65536x768, .f32⟩
  | 49 => ⟨S65536x1024, .bf16⟩
  | 50 => ⟨S65536x1024, .bf16⟩
  | 51 => ⟨S65536x2048, .bf16⟩
  | 52 => ⟨S65536x2048, .bf16⟩
  | 53 => ⟨S65536x1024, .bf16⟩
  | 54 => ⟨S65536x768, .bf16⟩
  | 55 => ⟨S65536x256, .f32⟩
  | 56 => ⟨S65536x256, .f32⟩
  | 57 => ⟨S_, .f32⟩
  | 58 => ⟨S65536x256, .f32⟩
  | 59 => ⟨S65536x256, .f32⟩
  | 60 => ⟨S_, .f32⟩
  | 61 => ⟨S65536x256, .f32⟩
  | 62 => ⟨S65536x256, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_10 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_11 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_cst_12 : Ref sig .tc := ⟨.hbm, 185, rfl⟩
abbrev main_v168 : Ref sig .tc := ⟨.hbm, 186, rfl⟩
abbrev main_v169 : Ref sig .tc := ⟨.hbm, 187, rfl⟩
abbrev main_cst_13 : Ref sig .tc := ⟨.hbm, 188, rfl⟩
abbrev main_v170 : Ref sig .tc := ⟨.hbm, 189, rfl⟩
abbrev main_v171 : Ref sig .tc := ⟨.hbm, 190, rfl⟩

abbrev nD : Nat := 1
abbrev τ : Topo := Topo.v7x

variable {F : FTy → Type} [FloatOps F]
-- ==== Proof.RetModel.lean ====
/- The retention, written once as a function of its arrays over the extended reals: the tables of powers of the decay, the
   state a head carries from chunk to chunk, a chunk's output, and the group norm and gate over it. Both programs are proved
   equal to it. -/
module

public import Idealize.ShloMosaic.PureOps.Ideal
public import Idealize.ShloMosaic.Lib.Pointwise

@[expose] public section

noncomputable section

namespace Cert.RetModel

open Idealize.ShloMosaic

/-- The decay of head `h`. -/
def gamma (h : Fin 8) : ℝ := 1 - 1 / (32 * 2 ^ h.val)
/-- The logarithm of a head's decay. -/
def lg (h : Fin 8) : EReal := ((Real.log (gamma h) : ℝ) : EReal)
/-- The decay over a whole chunk. -/
def gc (h : Fin 8) : EReal := ((gamma h ^ 128 : ℝ) : EReal)

/-- A row's number within its chunk, as a float. -/
def num (r : Fin 128) : EReal := FloatOps.sitofp (F := Ideal) .f32 (BitVec.ofNat 32 r.val)
/-- The within-chunk decay: `γ^(r - c)` at and below the diagonal. -/
def dec (h : Fin 8) (r c : Fin 128) : EReal :=
  if 0 ≤ num r - num c then Ideal.exp (max (num r - num c) 0 * lg h) else 0
/-- The weight of the carried state at row `r` of a chunk. -/
def xi (h : Fin 8) (r : Fin 128) : EReal := Ideal.exp ((num r + 1) * lg h)
/-- The weight with which row `r` of a chunk enters the state. -/
def zeta (h : Fin 8) (r : Fin 128) : EReal := Ideal.exp ((Ideal.ofBits .f32 0x42FE0000#32 - num r) * lg h)

/-- Row `r` of chunk `n`, as a row of the sequence. -/
abbrev row (n : ℕ) (r : Fin 128) : Fin 2048 := ⟨(n * 128 + r.val) % 2048, Nat.mod_lt _ (by decide)⟩
/-- Lane `d` of head `h` among the query and key lanes. -/
abbrev ql (h : Fin 8) (d : Fin 128) : Fin 1024 := ⟨h.val * 128 + d.val, by omega⟩
/-- Lane `e` of head `h` among the value lanes. -/
abbrev vl (h : Fin 8) (e : Fin 256) : Fin 2048 := ⟨h.val * 256 + e.val, by omega⟩

section
variable (q k : Fin 2048 → Fin 1024 → EReal) (v g : Fin 2048 → Fin 2048 → EReal) (gn : Fin 2048 → EReal)

/-- The state of head `h` before chunk `n`. -/
def state (h : Fin 8) : ℕ → Fin 128 → Fin 256 → EReal
  | 0 => fun _ _ => 0
  | n + 1 => fun d e => gc h * state h n d e + ∑ s : Fin 128, k (row n s) (ql h d) * zeta h s * v (row n s) (vl h e)

/-- What head `h` retains at row `r` of chunk `n`. -/
def out (h : Fin 8) (n : ℕ) (r : Fin 128) (e : Fin 256) : EReal :=
  (∑ s : Fin 128, (∑ d : Fin 128, q (row n r) (ql h d) * k (row n s) (ql h d)) * dec h r s * v (row n s) (vl h e))
  + (∑ d : Fin 128, q (row n r) (ql h d) * state k v h n d e) * xi h r

end

/-- The mean of 256 lanes. -/
def mean (o : Fin 256 → EReal) : EReal := Ideal.div (∑ e, o e) (Ideal.ofBits .f32 0x43800000#32)

/-- The normalized, gained and gated lane `e` of a head's 256 lanes `o`. -/
def normed (o : Fin 256 → EReal) (gain gate : EReal) (e : Fin 256) : EReal :=
  (o e - mean o) * Ideal.rsqrt (mean (fun e => (o e - mean o) * (o e - mean o)) + Ideal.ofBits .f32 0x358637BD#32)
    * gain * (gate * Ideal.logistic gate)

/-- The layer's retention at batch `b`, row `R` and value lane `l`: row `R % 128` of chunk `R / 128`, head `l / 256`. -/
def result (q k : Fin 32 → Fin 2048 → Fin 1024 → EReal) (v g : Fin 32 → Fin 2048 → Fin 2048 → EReal) (gn : Fin 2048 → EReal)
    (b : Fin 32) (R l : Fin 2048) : EReal :=
  normed (out (q b) (k b) (v b) ⟨l.val / 256, by omega⟩ (R.val / 128) ⟨R.val % 128, by omega⟩) (gn l) (g b R l) ⟨l.val % 256, by omega⟩

end Cert.RetModel

end

end
-- ==== Proof.KHead.lean ====
/- One head's share of a grid point of the retention kernel, as functions of the loaded tiles. -/
module

public import proofs.«01_k».proof.Proof.RetModel
public import proofs.«01_k».proof.Proof.Gen.RetIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RetIdeal.Value

open Cert.RetIdeal Cert.RetIdeal.Gen Cert.RetModel

/-- A head's decay table for the logarithm `l`. -/
def tDec (l : Ideal .f32) : FVec Ideal S1x128x128 .f32 := k0_pay9 (F := Ideal) (k0_pay7 (F := Ideal)) (k0_pay8 (F := Ideal)) l
/-- A head's table of the state's weights. -/
def tXi (l : Ideal .f32) : FVec Ideal S1x128x128 .f32 :=
  shapeCast S1x128x128 (exp (mulf (addf (k0_pay2 (F := Ideal)) (broadcast S128x128 (Scalar.ofBits .f32 0x3F800000#32)))
    (broadcast S128x128 l))) shapeCasts_S128x128_S1x128x128
/-- A head's table of the rows' weights. -/
def tZeta (l : Ideal .f32) : FVec Ideal S1x128x128 .f32 :=
  shapeCast S1x128x128 (exp (mulf (subf (broadcast S128x128 (Scalar.ofBits .f32 0x42FE0000#32)) (k0_pay2 (F := Ideal)))
    (broadcast S128x128 l))) shapeCasts_S128x128_S1x128x128

theorem tDec_at (l : Ideal .f32) (i : Fin 1) (r c : Fin 128) : tDec l (ix3 i r c) = if 0 ≤ num r - num c then Ideal.exp (max (num r - num c) 0 * l) else 0 := by
  pointwise [tDec, k0_pay9, k0_pay7, k0_pay8, k0_pay3, k0_pay2, num]
theorem tXi_at (l : Ideal .f32) (i : Fin 1) (r c : Fin 128) : tXi l (ix3 i r c) = Ideal.exp ((num r + 1) * l) := by
  pointwise [tXi, k0_pay2, num]
theorem tZeta_at (l : Ideal .f32) (i : Fin 1) (r c : Fin 128) : tZeta l (ix3 i r c) = Ideal.exp ((Ideal.ofBits .f32 0x42FE0000#32 - num r) * l) := by
  pointwise [tZeta, k0_pay2, num]

/-- A head's stored state. -/
def hState (κ : Ideal .f32) (kb : Vec Ideal S1x128x128 .bf16) (vb : Vec Ideal S1x128x256 .bf16) (st : Vec Ideal S1x128x256 .f32)
    (ze : Vec Ideal S1x128x128 .f32) : FVec Ideal S1x128x256 .f32 :=
  shapeCast S1x128x256 (addf (mulf (broadcast S128x256 κ) (k0_pay37 st))
    (matmul dot_S128x128_S128x256_S128x256_0_0_1_1_n_n none
      (truncf .bf16 (mulf (k0_pay39 kb) (shapeCast S128x128 ze shapeCasts_S1x128x128_S128x128)) bitsLt_bf16_f32)
      (k0_pay36 vb) (constant S128x256 .f32 0x00000000#32))) shapeCasts_S128x256_S1x128x256

theorem hState_at (κ : Ideal .f32) (kb : Vec Ideal S1x128x128 .bf16) (vb : Vec Ideal S1x128x256 .bf16) (st : Vec Ideal S1x128x256 .f32)
    (ze : Vec Ideal S1x128x128 .f32) (i : Fin 1) (d : Fin 128) (e : Fin 256) : hState κ kb vb st ze (ix3 i d e)
    = κ * st (ix3 0 d e) + ∑ s : Fin 128, kb (ix3 0 s d) * ze (ix3 0 s d) * vb (ix3 0 s e) := by
  pointwise [hState, k0_pay35, k0_pay36, k0_pay37, k0_pay39]

theorem hRet_at (qb kb : Vec Ideal S1x128x128 .bf16) (vb : Vec Ideal S1x128x256 .bf16) (de : Vec Ideal S1x128x128 .f32)
    (st : Vec Ideal S1x128x256 .f32) (x : Vec Ideal S1x128x128 .f32) (r : Fin 128) (e : Fin 256) :
    k0_pay38 (F := Ideal) qb kb vb de st x (ix2 r e)
    = (∑ s : Fin 128, (∑ d : Fin 128, qb (ix3 0 r d) * kb (ix3 0 s d)) * de (ix3 0 r s) * vb (ix3 0 s e))
      + (∑ d : Fin 128, qb (ix3 0 r d) * st (ix3 0 d e)) * x (ix3 0 r ⟨e.val % 128, by omega⟩) := by
  pointwise [k0_pay38, k0_pay35, k0_pay36, k0_pay37, k0_pay39]
  split <;> refine Ideal.add_congr rfl (Ideal.mul_congr rfl ?_) <;> blk_ext

theorem hNorm_at (o : FVec Ideal S128x256 .f32) (gn : Vec Ideal S1x256 .f32) (gb : Vec Ideal S1x128x256 .bf16) (i : Fin 1) (r : Fin 128) (e : Fin 256) :
    k0_pay42 (F := Ideal) (k0_pay41 o gn gb) (ix3 i r e) = normed (fun e => o (ix2 r e)) (gn (ix2 0 e)) (gb (ix3 0 r e)) e := by
  pointwise [k0_pay41, k0_pay42]
  rfl

end Cert.RetIdeal.Value

end

end
-- ==== Proof.KPiece.lean ====
/- What a grid point of the retention kernel leaves in its output block and in the carried state, as functions of its blocks
   and of the carried arrays before it. -/
module

public import proofs.«01_k».proof.Proof.KHead
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetIdeal.Value

open Cert.RetIdeal Cert.RetIdeal.Gen Cert.RetModel

/-- The state a point leaves, from its key and value blocks, the state before it and the rows' weights. -/
def PState (x1 : Vec Ideal S1x128x1024 .bf16) (x2 : Vec Ideal S1x128x2048 .bf16) (xs0 : Vec Ideal S8x128x256 .f32)
    (xs3 : Vec Ideal S8x128x128 .f32) : Vec Ideal S8x128x256 .f32 := fun y =>
  gc (y 0) * xs0 y + ∑ s : Fin 128, x1 (ix3 0 s (ql (y 0) (y 1))) * xs3 (ix3 (y 0) s (y 1)) * x2 (ix3 0 s (vl (y 0) (y 2)))

/-- The named constants are the heads' logarithms. -/
theorem named_lg :
    Named.named (F := Ideal) Cert.RetIdeal.κ "log_g0" (φ := .f32) 0xBD020AEC#32 = lg 0
    ∧ Named.named (F := Ideal) Cert.RetIdeal.κ "log_g1" (φ := .f32) 0xBC8102B3#32 = lg 1
    ∧ Named.named (F := Ideal) Cert.RetIdeal.κ "log_g2" (φ := .f32) 0xBC0080AC#32 = lg 2
    ∧ Named.named (F := Ideal) Cert.RetIdeal.κ "log_g3" (φ := .f32) 0xBB80402B#32 = lg 3
    ∧ Named.named (F := Ideal) Cert.RetIdeal.κ "log_g4" (φ := .f32) 0xBB00200B#32 = lg 4
    ∧ Named.named (F := Ideal) Cert.RetIdeal.κ "log_g5" (φ := .f32) 0xBA801003#32 = lg 5
    ∧ Named.named (F := Ideal) Cert.RetIdeal.κ "log_g6" (φ := .f32) 0xBA000801#32 = lg 6
    ∧ Named.named (F := Ideal) Cert.RetIdeal.κ "log_g7" (φ := .f32) 0xB9800400#32 = lg 7 := by
  refine ⟨?_, ?_, ?_, ?_, ?_, ?_, ?_, ?_⟩ <;>
    refine (IdealRules.named_const.ideal_named_scalar _ _ _ _ rfl).trans ?_ <;>
    (unfold lg gamma; norm_num)

/-- The named constants are the heads' decays over a chunk. -/
theorem named_gc :
    Named.named (F := Ideal) Cert.RetIdeal.κ "chunk_g0" (φ := .f32) 0x3C8CC36A#32 = gc 0
    ∧ Named.named (F := Ideal) Cert.RetIdeal.κ "chunk_g1" (φ := .f32) 0x3E08698E#32 = gc 1
    ∧ Named.named (F := Ideal) Cert.RetIdeal.κ "chunk_g2" (φ := .f32) 0x3EBB9DB9#32 = gc 2
    ∧ Named.named (F := Ideal) Cert.RetIdeal.κ "chunk_g3" (φ := .f32) 0x3F1B1EB1#32 = gc 3
    ∧ Named.named (F := Ideal) Cert.RetIdeal.κ "chunk_g4" (φ := .f32) 0x3F475303#32 = gc 4
    ∧ Named.named (F := Ideal) Cert.RetIdeal.κ "chunk_g5" (φ := .f32) 0x3F61E7C9#32 = gc 5
    ∧ Named.named (F := Ideal) Cert.RetIdeal.κ "chunk_g6" (φ := .f32) 0x3F707C6F#32 = gc 6
    ∧ Named.named (F := Ideal) Cert.RetIdeal.κ "chunk_g7" (φ := .f32) 0x3F781F6D#32 = gc 7 := by
  refine ⟨?_, ?_, ?_, ?_, ?_, ?_, ?_, ?_⟩ <;>
    refine (IdealRules.named_const.ideal_named_scalar _ _ _ _ rfl).trans ?_ <;>
    (unfold gc gamma; norm_num)

/-- A three-axis index is its coordinates. -/
theorem ex3 {n0 n1 n2 : ℕ} (x : (⟨3, ![n0, n1, n2]⟩ : Shape).Idx) : ∃ a b c, x = ix3 a b c := by
  refine ⟨x 0, x 1, x 2, funext fun i => ?_⟩
  match i with
  | 0 => rfl
  | 1 => rfl
  | 2 => rfl

/-- A load of a box at literal offsets, read at its coordinates. -/
theorem ld3 {e : EltTy} {n0 n1 n2 m0 m1 m2 o0 o1 o2 : ℕ} (X : (⟨3, ![n0, n1, n2]⟩ : Shape).Idx → Elt Ideal e)
    (inb : ∀ a, (![o0, o1, o2] : Fin 3 → ℕ) a + (![m0, m1, m2] : Fin 3 → ℕ) a ≤ (⟨3, ![n0, n1, n2]⟩ : Shape).size a)
    (a : Fin m0) (b : Fin m1) (c : Fin m2) (a' : Fin n0) (b' : Fin n1) (c' : Fin n2)
    (h0 : a'.val = o0 + a.val) (h1 : b'.val = o1 + b.val) (h2 : c'.val = o2 + c.val) :
    View.ld X (Rect.unit ![o0, o1, o2] ![m0, m1, m2] inb) (ix3 a b c) = X (ix3 a' b' c') :=
  View.ld_unit_apply_of X _ _ inb _ _ fun i => by
    match i with
    | 0 => exact h0
    | 1 => exact h1
    | 2 => exact h2

/-- The same for a matrix. -/
theorem ld2 {e : EltTy} {n0 n1 m0 m1 o0 o1 : ℕ} (X : (⟨2, ![n0, n1]⟩ : Shape).Idx → Elt Ideal e)
    (inb : ∀ a, (![o0, o1] : Fin 2 → ℕ) a + (![m0, m1] : Fin 2 → ℕ) a ≤ (⟨2, ![n0, n1]⟩ : Shape).size a)
    (a : Fin m0) (b : Fin m1) (a' : Fin n0) (b' : Fin n1) (h0 : a'.val = o0 + a.val) (h1 : b'.val = o1 + b.val) :
    View.ld X (Rect.unit ![o0, o1] ![m0, m1] inb) (ix2 a b) = X (ix2 a' b') :=
  View.ld_unit_apply_of X _ _ inb _ _ fun i => by
    match i with
    | 0 => exact h0
    | 1 => exact h1

/-- A load from the zeroed state reads zero. -/
theorem zero_at (r : Rect S8x128x256) (x : r.shape.Idx) : View.ld (Val := Elt Ideal) (e' := .f32) (k0_pay34 (F := Ideal)) r x = (0 : EReal) := by
  rw [View.ld_apply]
  generalize r.idx x = y
  obtain ⟨a, b, d, rfl⟩ := ex3 y
  pointwise [k0_pay34]

/-- The coordinates of a point of a box at literal offsets. -/
theorem emb3 {n0 n1 n2 m0 m1 m2 o0 o1 o2 : ℕ}
    (inb : ∀ a, (![o0, o1, o2] : Fin 3 → ℕ) a + (![m0, m1, m2] : Fin 3 → ℕ) a ≤ (⟨3, ![n0, n1, n2]⟩ : Shape).size a)
    (x : (Rect.unit (s := ⟨3, ![n0, n1, n2]⟩) ![o0, o1, o2] ![m0, m1, m2] inb).shape.Idx) :
    (((Rect.unit (s := ⟨3, ![n0, n1, n2]⟩) ![o0, o1, o2] ![m0, m1, m2] inb).emb x 0).val = o0 + (x 0).val)
      ∧ (((Rect.unit (s := ⟨3, ![n0, n1, n2]⟩) ![o0, o1, o2] ![m0, m1, m2] inb).emb x 1).val = o1 + (x 1).val)
      ∧ (((Rect.unit (s := ⟨3, ![n0, n1, n2]⟩) ![o0, o1, o2] ![m0, m1, m2] inb).emb x 2).val = o2 + (x 2).val) :=
  ⟨congrArg (o0 + ·) (Nat.one_mul _), congrArg (o1 + ·) (Nat.one_mul _), congrArg (o2 + ·) (Nat.one_mul _)⟩

/-- Eight stores that are blocks of `G` and cover the buffer leave `G`, whatever was stored before them. -/
theorem canon8 {S : Shape} {e : EltTy} (G : S.Idx → Elt Ideal e) (p0 p1 p2 p3 p4 p5 p6 p7 q : View.Piece (Elt Ideal) S e) (y : S.Idx)
    (hc : ∃ p ∈ [p7, p6, p5, p4, p3, p2, p1, p0], y ∈ p.1.set)
    (h7 : ∀ x, p7.2 x = G (p7.1.emb x)) (h6 : ∀ x, p6.2 x = G (p6.1.emb x)) (h5 : ∀ x, p5.2 x = G (p5.1.emb x))
    (h4 : ∀ x, p4.2 x = G (p4.1.emb x)) (h3 : ∀ x, p3.2 x = G (p3.1.emb x)) (h2 : ∀ x, p2.2 x = G (p2.1.emb x))
    (h1 : ∀ x, p1.2 x = G (p1.1.emb x)) (h0 : ∀ x, p0.2 x = G (p0.1.emb x)) :
    View.canon [p7, p6, p5, p4, p3, p2, p1, p0, q] y = G y :=
  View.canon_append_of_piecesOf G [q] [p7, p6, p5, p4, p3, p2, p1, p0] ⟨h7, h6, h5, h4, h3, h2, h1, h0, trivial⟩ y hc

/-- A head's stored state is that head's part of the state a point leaves. -/
theorem hState_piece {x1 : Vec Ideal S1x128x1024 .bf16} {x2 : Vec Ideal S1x128x2048 .bf16} {xs0 : Vec Ideal S8x128x256 .f32}
    {xs3 : Vec Ideal S8x128x128 .f32} {y : S8x128x256.Idx} {x : S1x128x256.Idx} {κ : Ideal .f32} {kb : Vec Ideal S1x128x128 .bf16}
    {vb : Vec Ideal S1x128x256 .bf16} {st : Vec Ideal S1x128x256 .f32} {ze : Vec Ideal S1x128x128 .f32}
    (h : Fin 8) (hκ : κ = gc h) (h0 : (y 0 : ℕ) = h.val) (h1 : (y 1 : ℕ) = x 1) (h2 : (y 2 : ℕ) = x 2)
    (hk : ∀ s d, kb (ix3 0 s d) = x1 (ix3 0 s (ql h d))) (hv : ∀ s e, vb (ix3 0 s e) = x2 (ix3 0 s (vl h e)))
    (hs : ∀ d e, st (ix3 0 d e) = xs0 (ix3 h d e)) (hz : ∀ s d, ze (ix3 0 s d) = xs3 (ix3 h s d)) :
    hState κ kb vb st ze x = PState x1 x2 xs0 xs3 y := by
  subst hκ
  idx_vars x
  idx_vars y
  obtain rfl : y0 = h := Fin.ext h0
  obtain rfl : y1 = _ := Fin.ext h1
  obtain rfl : y2 = _ := Fin.ext h2
  rw [hState_at, hs]
  exact Ideal.add_congr rfl (Finset.sum_congr rfl fun s _ => by rw [hk, hz, hv]; rfl)

/-- The same, the state's point named by the head's box. -/
theorem hState_emb {x1 : Vec Ideal S1x128x1024 .bf16} {x2 : Vec Ideal S1x128x2048 .bf16} {xs0 : Vec Ideal S8x128x256 .f32}
    {xs3 : Vec Ideal S8x128x128 .f32} {o : ℕ} {inb} {x : S1x128x256.Idx} {κ : Ideal .f32} {kb : Vec Ideal S1x128x128 .bf16}
    {vb : Vec Ideal S1x128x256 .bf16} {st : Vec Ideal S1x128x256 .f32} {ze : Vec Ideal S1x128x128 .f32}
    (h : Fin 8) (hκ : κ = gc h) (ho : o = h.val)
    (hk : ∀ s d, kb (ix3 0 s d) = x1 (ix3 0 s (ql h d))) (hv : ∀ s e, vb (ix3 0 s e) = x2 (ix3 0 s (vl h e)))
    (hs : ∀ d e, st (ix3 0 d e) = xs0 (ix3 h d e)) (hz : ∀ s d, ze (ix3 0 s d) = xs3 (ix3 h s d)) :
    hState κ kb vb st ze x = PState x1 x2 xs0 xs3 ((Rect.unit (s := S8x128x256) ![o, 0, 0] ![1, 128, 256] inb).emb x) := by
  have hx : (x 0).val < 1 := (x 0).isLt
  obtain ⟨e0, e1, e2⟩ := emb3 inb x
  exact hState_piece h hκ (e0.trans (by omega)) (e1.trans (Nat.zero_add _)) (e2.trans (Nat.zero_add _)) hk hv hs hz

/-- What a point writes: each head's retention, normed and gated, in the head's lanes. -/
def POut (x0 x1 : Vec Ideal S1x128x1024 .bf16) (x2 x3 : Vec Ideal S1x128x2048 .bf16) (x4 : Vec Ideal S1x2048 .f32)
    (st : Vec Ideal S8x128x256 .f32) (de xt : Vec Ideal S8x128x128 .f32) : Vec Ideal S1x128x2048 .bf16 := fun y =>
  let h : Fin 8 := ⟨(y 2).val / 256, by have : (y 2).val < 2048 := (y 2).isLt; omega⟩
  normed (fun e => (∑ s : Fin 128, (∑ d : Fin 128, x0 (ix3 0 (y 1) (ql h d)) * x1 (ix3 0 s (ql h d))) * de (ix3 h (y 1) s) * x2 (ix3 0 s (vl h e)))
      + (∑ d : Fin 128, x0 (ix3 0 (y 1) (ql h d)) * st (ix3 h d e)) * xt (ix3 h (y 1) ⟨e.val % 128, Nat.mod_lt _ (by omega)⟩))
    (x4 (ix2 0 (y 2))) (x3 (ix3 0 (y 1) (y 2))) ⟨(y 2).val % 256, Nat.mod_lt _ (by omega)⟩

/-- A head's written block is that head's part of what the point writes. -/
theorem hOut_piece {x0 x1 : Vec Ideal S1x128x1024 .bf16} {x2 x3 : Vec Ideal S1x128x2048 .bf16} {x4 : Vec Ideal S1x2048 .f32}
    {Z : Vec Ideal S8x128x256 .f32} {D X : Vec Ideal S8x128x128 .f32}
    {y : S1x128x2048.Idx} {x : S1x128x256.Idx} {qb kb : Vec Ideal S1x128x128 .bf16}
    {vb gb : Vec Ideal S1x128x256 .bf16} {gn : Vec Ideal S1x256 .f32} {st : Vec Ideal S1x128x256 .f32} {de xt : Vec Ideal S1x128x128 .f32}
    (h : Fin 8) (h1 : (y 1 : ℕ) = x 1) (h2 : (y 2 : ℕ) = h.val * 256 + x 2)
    (hq : ∀ s d, qb (ix3 0 s d) = x0 (ix3 0 s (ql h d))) (hk : ∀ s d, kb (ix3 0 s d) = x1 (ix3 0 s (ql h d)))
    (hv : ∀ s e, vb (ix3 0 s e) = x2 (ix3 0 s (vl h e))) (hg : ∀ s e, gb (ix3 0 s e) = x3 (ix3 0 s (vl h e)))
    (hn : ∀ e, gn (ix2 0 e) = x4 (ix2 0 (vl h e)))
    (hs : ∀ d e, st (ix3 0 d e) = Z (ix3 h d e)) (hd : ∀ s d, de (ix3 0 s d) = D (ix3 h s d)) (hx : ∀ s d, xt (ix3 0 s d) = X (ix3 h s d)) :
    k0_pay42 (F := Ideal) (k0_pay41 (k0_pay38 qb kb vb de st xt) gn gb) x = POut x0 x1 x2 x3 x4 Z D X y := by
  obtain ⟨a, r, e, rfl⟩ := ex3 x
  idx_vars y
  obtain rfl : y1 = r := Fin.ext h1
  obtain rfl : y2 = vl h e := Fin.ext h2
  have hb : e.val < 256 := e.isLt
  have hh : (⟨(vl h e).val / 256, by have := (vl h e).isLt; omega⟩ : Fin 8) = h := Fin.ext (by show (h.val * 256 + e.val) / 256 = h.val; omega)
  have he : (⟨(vl h e).val % 256, Nat.mod_lt _ (by omega)⟩ : Fin 256) = e := Fin.ext (by show (h.val * 256 + e.val) % 256 = e.val; omega)
  rw [hNorm_at, hn, hg]
  unfold POut
  dsimp only [ix3_1, ix3_2]
  rw [hh, he]
  refine congrArg (fun o => normed o _ _ e) (funext fun e' => ?_)
  rw [hRet_at]
  simp only [hq, hk, hv, hs, hd, hx]

/-- The tables the first point of a shard stores. -/
def PDec : Vec Ideal S8x128x128 .f32 := fun y => dec (y 0) (y 1) (y 2)
def PXi : Vec Ideal S8x128x128 .f32 := fun y => xi (y 0) (y 1)
def PZeta : Vec Ideal S8x128x128 .f32 := fun y => zeta (y 0) (y 1)

theorem tDec_piece {l : Ideal .f32} {y : S8x128x128.Idx} {x : S1x128x128.Idx} (h : Fin 8) (hl : l = lg h) (h0 : (y 0 : ℕ) = h.val)
    (h1 : (y 1 : ℕ) = x 1) (h2 : (y 2 : ℕ) = x 2) : tDec l x = PDec y := by
  subst hl
  obtain ⟨a, r, e, rfl⟩ := ex3 x
  idx_vars y
  obtain rfl : y0 = h := Fin.ext h0
  obtain rfl : y1 = r := Fin.ext h1
  obtain rfl : y2 = e := Fin.ext h2
  exact tDec_at _ _ _ _

theorem tXi_piece {l : Ideal .f32} {y : S8x128x128.Idx} {x : S1x128x128.Idx} (h : Fin 8) (hl : l = lg h) (h0 : (y 0 : ℕ) = h.val)
    (h1 : (y 1 : ℕ) = x 1) (_ : (y 2 : ℕ) = x 2) : tXi l x = PXi y := by
  subst hl
  obtain ⟨a, r, e, rfl⟩ := ex3 x
  idx_vars y
  obtain rfl : y0 = h := Fin.ext h0
  obtain rfl : y1 = r := Fin.ext h1
  exact tXi_at _ _ _ _

theorem tZeta_piece {l : Ideal .f32} {y : S8x128x128.Idx} {x : S1x128x128.Idx} (h : Fin 8) (hl : l = lg h) (h0 : (y 0 : ℕ) = h.val)
    (h1 : (y 1 : ℕ) = x 1) (_ : (y 2 : ℕ) = x 2) : tZeta l x = PZeta y := by
  subst hl
  obtain ⟨a, r, e, rfl⟩ := ex3 x
  idx_vars y
  obtain rfl : y0 = h := Fin.ext h0
  obtain rfl : y1 = r := Fin.ext h1
  exact tZeta_at _ _ _ _

end Cert.RetIdeal.Value

end

end
-- ==== Proof.KCase.lean ====
/- What a grid point of the retention kernel leaves in its output block and in the carried state, as functions of its blocks
   and of the carried arrays before it. -/
module

public import proofs.«01_k».proof.Proof.KPiece
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetIdeal.Value

open Cert.RetIdeal Cert.RetIdeal.Gen Cert.RetModel

section
variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x2048 .bf16) (harg4 : arg4.IsWhole) (arg5 : Memref sig .tc .vmem S1x128x2048 .bf16) (harg5 : arg5.IsWhole) (arg6 : Memref sig .tc .vmem S1x2048 .f32) (harg6 : arg6.IsWhole) (arg7 : Memref sig .tc .vmem S1x128x2048 .bf16) (harg7 : arg7.IsWhole) (arg8 : Memref sig .tc .vmem S8x128x256 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole)
    (x0 : Vec Ideal S1x128x1024 .bf16) (x1 : Vec Ideal S1x128x1024 .bf16) (x2 : Vec Ideal S1x128x2048 .bf16) (x3 : Vec Ideal S1x128x2048 .bf16) (x4 : Vec Ideal S1x2048 .f32) (xs0 : Vec Ideal S8x128x256 .f32) (xs1 : Vec Ideal S8x128x128 .f32) (xs2 : Vec Ideal S8x128x128 .f32) (xs3 : Vec Ideal S8x128x128 .f32)

theorem state_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3
    = PState x1 x2 xs0 xs3 := by
  funext y
  frame_open
  simp (disch := decide) only [↓ View.readCov_skip, ↓ View.readCov_cons_toLoadRect, ↓ View.readCov_fill]
  frame_out
  canon_tiles x h
  all_goals first
    | refine hState_piece 0 named_gc.1 (by omega) h1 h2 ?_ ?_ ?_ ?_
    | refine hState_piece 1 named_gc.2.1 (by omega) h1 h2 ?_ ?_ ?_ ?_
    | refine hState_piece 2 named_gc.2.2.1 (by omega) h1 h2 ?_ ?_ ?_ ?_
    | refine hState_piece 3 named_gc.2.2.2.1 (by omega) h1 h2 ?_ ?_ ?_ ?_
    | refine hState_piece 4 named_gc.2.2.2.2.1 (by omega) h1 h2 ?_ ?_ ?_ ?_
    | refine hState_piece 5 named_gc.2.2.2.2.2.1 (by omega) h1 h2 ?_ ?_ ?_ ?_
    | refine hState_piece 6 named_gc.2.2.2.2.2.2.1 (by omega) h1 h2 ?_ ?_ ?_ ?_
    | refine hState_piece 7 named_gc.2.2.2.2.2.2.2 (by omega) h1 h2 ?_ ?_ ?_ ?_
  all_goals (intro a b; exact ld3 _ _ _ _ _ _ _ _ (by first | rfl | exact (Nat.zero_add _).symm) (by first | rfl | exact (Nat.zero_add _).symm) (by first | rfl | exact (Nat.zero_add _).symm))

theorem state_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 xs1 xs2 xs3
    = PState x1 x2 (fun _ => 0) xs3 := by
  funext y
  frame_open
  simp (disch := decide) only [↓ View.readCov_skip, ↓ View.readCov_cons_toLoadRect, ↓ View.readCov_fill]
  frame_out
  refine canon8 (PState x1 x2 (fun _ => 0) xs3) _ _ _ _ _ _ _ _ _ y (View.cover_of_tiledL (s := S8x128x256) _ S1x128x256.size (by sl_kernel_rfl) y) ?_ ?_ ?_ ?_ ?_ ?_ ?_ ?_
  all_goals intro x
  all_goals first
    | refine hState_emb (inb := by decide) 0 named_gc.1 rfl ?_ ?_ ?_ ?_
    | refine hState_emb (inb := by decide) 1 named_gc.2.1 rfl ?_ ?_ ?_ ?_
    | refine hState_emb (inb := by decide) 2 named_gc.2.2.1 rfl ?_ ?_ ?_ ?_
    | refine hState_emb (inb := by decide) 3 named_gc.2.2.2.1 rfl ?_ ?_ ?_ ?_
    | refine hState_emb (inb := by decide) 4 named_gc.2.2.2.2.1 rfl ?_ ?_ ?_ ?_
    | refine hState_emb (inb := by decide) 5 named_gc.2.2.2.2.2.1 rfl ?_ ?_ ?_ ?_
    | refine hState_emb (inb := by decide) 6 named_gc.2.2.2.2.2.2.1 rfl ?_ ?_ ?_ ?_
    | refine hState_emb (inb := by decide) 7 named_gc.2.2.2.2.2.2.2 rfl ?_ ?_ ?_ ?_
  all_goals first
    | (intro a b; exact ld3 _ _ _ _ _ _ _ _ (by first | rfl | exact (Nat.zero_add _).symm) (by first | rfl | exact (Nat.zero_add _).symm) (by first | rfl | exact (Nat.zero_add _).symm))
    | (intro a b; exact zero_at _ _)
    | exact fun _ _ => tZeta_piece 0 named_lg.1 rfl rfl rfl
    | exact fun _ _ => tZeta_piece 1 named_lg.2.1 rfl rfl rfl
    | exact fun _ _ => tZeta_piece 2 named_lg.2.2.1 rfl rfl rfl
    | exact fun _ _ => tZeta_piece 3 named_lg.2.2.2.1 rfl rfl rfl
    | exact fun _ _ => tZeta_piece 4 named_lg.2.2.2.2.1 rfl rfl rfl
    | exact fun _ _ => tZeta_piece 5 named_lg.2.2.2.2.2.1 rfl rfl rfl
    | exact fun _ _ => tZeta_piece 6 named_lg.2.2.2.2.2.2.1 rfl rfl rfl
    | exact fun _ _ => tZeta_piece 7 named_lg.2.2.2.2.2.2.2 rfl rfl rfl

theorem decay_A (hc0 : cond0_0 i) (hc1 : cond0_1 i) : sout0_A_1 c i arg2 harg2 arg3 harg3 arg4 harg4 arg5 harg5 arg6 harg6 arg7 harg7 arg8 harg8 arg9 harg9 arg10 harg10 arg11 harg11 hc0 hc1 x0 x1 x2 x3 x4 = PDec := by
  funext y
  frame_out
  canon_tiles x h
  all_goals first
    | exact tDec_piece 0 named_lg.1 (by omega) h1 h2
    | exact tDec_piece 1 named_lg.2.1 (by omega) h1 h2
    | exact tDec_piece 2 named_lg.2.2.1 (by omega) h1 h2
    | exact tDec_piece 3 named_lg.2.2.2.1 (by omega) h1 h2
    | exact tDec_piece 4 named_lg.2.2.2.2.1 (by omega) h1 h2
    | exact tDec_piece 5 named_lg.2.2.2.2.2.1 (by omega) h1 h2
    | exact tDec_piece 6 named_lg.2.2.2.2.2.2.1 (by omega) h1 h2
    | exact tDec_piece 7 named_lg.2.2.2.2.2.2.2 (by omega) h1 h2

theorem xi_A (hc0 : cond0_0 i) (hc1 : cond0_1 i) : sout0_A_2 c i arg2 harg2 arg3 harg3 arg4 harg4 arg5 harg5 arg6 harg6 arg7 harg7 arg8 harg8 arg9 harg9 arg10 harg10 arg11 harg11 hc0 hc1 x0 x1 x2 x3 x4 = PXi := by
  funext y
  frame_out
  canon_tiles x h
  all_goals first
    | exact tXi_piece 0 named_lg.1 (by omega) h1 h2
    | exact tXi_piece 1 named_lg.2.1 (by omega) h1 h2
    | exact tXi_piece 2 named_lg.2.2.1 (by omega) h1 h2
    | exact tXi_piece 3 named_lg.2.2.2.1 (by omega) h1 h2
    | exact tXi_piece 4 named_lg.2.2.2.2.1 (by omega) h1 h2
    | exact tXi_piece 5 named_lg.2.2.2.2.2.1 (by omega) h1 h2
    | exact tXi_piece 6 named_lg.2.2.2.2.2.2.1 (by omega) h1 h2
    | exact tXi_piece 7 named_lg.2.2.2.2.2.2.2 (by omega) h1 h2

theorem zeta_A (hc0 : cond0_0 i) (hc1 : cond0_1 i) : sout0_A_3 c i arg2 harg2 arg3 harg3 arg4 harg4 arg5 harg5 arg6 harg6 arg7 harg7 arg8 harg8 arg9 harg9 arg10 harg10 arg11 harg11 hc0 hc1 x0 x1 x2 x3 x4 = PZeta := by
  funext y
  frame_out
  canon_tiles x h
  all_goals first
    | exact tZeta_piece 0 named_lg.1 (by omega) h1 h2
    | exact tZeta_piece 1 named_lg.2.1 (by omega) h1 h2
    | exact tZeta_piece 2 named_lg.2.2.1 (by omega) h1 h2
    | exact tZeta_piece 3 named_lg.2.2.2.1 (by omega) h1 h2
    | exact tZeta_piece 4 named_lg.2.2.2.2.1 (by omega) h1 h2
    | exact tZeta_piece 5 named_lg.2.2.2.2.2.1 (by omega) h1 h2
    | exact tZeta_piece 6 named_lg.2.2.2.2.2.2.1 (by omega) h1 h2
    | exact tZeta_piece 7 named_lg.2.2.2.2.2.2.2 (by omega) h1 h2

theorem state_A (hc0 : cond0_0 i) (hc1 : cond0_1 i) :
    sout0_A_0 c i arg2 harg2 arg3 harg3 arg4 harg4 arg5 harg5 arg6 harg6 arg7 harg7 arg8 harg8 arg9 harg9 arg10 harg10 arg11 harg11 hc0 hc1 x0 x1 x2 x3 x4
    = PState x1 x2 (fun _ => 0) PZeta := by
  funext y
  frame_open
  simp (disch := decide) only [↓ View.readCov_skip, ↓ View.readCov_cons_toLoadRect, ↓ View.readCov_fill]
  frame_out
  refine canon8 (PState x1 x2 (fun _ => 0) PZeta) _ _ _ _ _ _ _ _ _ y (View.cover_of_tiledL (s := S8x128x256) _ S1x128x256.size (by sl_kernel_rfl) y) ?_ ?_ ?_ ?_ ?_ ?_ ?_ ?_
  all_goals intro x
  all_goals first
    | refine hState_emb (inb := by decide) 0 named_gc.1 rfl ?_ ?_ ?_ ?_
    | refine hState_emb (inb := by decide) 1 named_gc.2.1 rfl ?_ ?_ ?_ ?_
    | refine hState_emb (inb := by decide) 2 named_gc.2.2.1 rfl ?_ ?_ ?_ ?_
    | refine hState_emb (inb := by decide) 3 named_gc.2.2.2.1 rfl ?_ ?_ ?_ ?_
    | refine hState_emb (inb := by decide) 4 named_gc.2.2.2.2.1 rfl ?_ ?_ ?_ ?_
    | refine hState_emb (inb := by decide) 5 named_gc.2.2.2.2.2.1 rfl ?_ ?_ ?_ ?_
    | refine hState_emb (inb := by decide) 6 named_gc.2.2.2.2.2.2.1 rfl ?_ ?_ ?_ ?_
    | refine hState_emb (inb := by decide) 7 named_gc.2.2.2.2.2.2.2 rfl ?_ ?_ ?_ ?_
  all_goals first
    | (intro a b; exact ld3 _ _ _ _ _ _ _ _ (by first | rfl | exact (Nat.zero_add _).symm) (by first | rfl | exact (Nat.zero_add _).symm) (by first | rfl | exact (Nat.zero_add _).symm))
    | (intro a b; exact zero_at _ _)
    | exact fun _ _ => tZeta_piece 0 named_lg.1 rfl rfl rfl
    | exact fun _ _ => tZeta_piece 1 named_lg.2.1 rfl rfl rfl
    | exact fun _ _ => tZeta_piece 2 named_lg.2.2.1 rfl rfl rfl
    | exact fun _ _ => tZeta_piece 3 named_lg.2.2.2.1 rfl rfl rfl
    | exact fun _ _ => tZeta_piece 4 named_lg.2.2.2.2.1 rfl rfl rfl
    | exact fun _ _ => tZeta_piece 5 named_lg.2.2.2.2.2.1 rfl rfl rfl
    | exact fun _ _ => tZeta_piece 6 named_lg.2.2.2.2.2.2.1 rfl rfl rfl
    | exact fun _ _ => tZeta_piece 7 named_lg.2.2.2.2.2.2.2 rfl rfl rfl

theorem out_B (hc0 : ¬cond0_0 i) (hc1 : ¬cond0_1 i) :
    out0_B_5 c i arg2 harg2 arg3 harg3 arg4 harg4 arg5 harg5 arg6 harg6 arg7 harg7 arg8 harg8 arg9 harg9 arg10 harg10 arg11 harg11 hc0 hc1 x0 x1 x2 x3 x4 xs0 xs1 xs2 xs3 = POut x0 x1 x2 x3 x4 xs0 xs1 xs2 := by
  funext y
  frame_open
  simp (disch := decide) only [↓ View.readCov_skip, ↓ View.readCov_cons_toLoadRect, ↓ View.readCov_fill]
  frame_out
  canon_tiles x h
  all_goals first
    | refine hOut_piece 0 h1 (by omega) ?_ ?_ ?_ ?_ ?_ ?_ ?_ ?_
    | refine hOut_piece 1 h1 (by omega) ?_ ?_ ?_ ?_ ?_ ?_ ?_ ?_
    | refine hOut_piece 2 h1 (by omega) ?_ ?_ ?_ ?_ ?_ ?_ ?_ ?_
    | refine hOut_piece 3 h1 (by omega) ?_ ?_ ?_ ?_ ?_ ?_ ?_ ?_
    | refine hOut_piece 4 h1 (by omega) ?_ ?_ ?_ ?_ ?_ ?_ ?_ ?_
    | refine hOut_piece 5 h1 (by omega) ?_ ?_ ?_ ?_ ?_ ?_ ?_ ?_
    | refine hOut_piece 6 h1 (by omega) ?_ ?_ ?_ ?_ ?_ ?_ ?_ ?_
    | refine hOut_piece 7 h1 (by omega) ?_ ?_ ?_ ?_ ?_ ?_ ?_ ?_
  all_goals first
    | (intro a b; exact ld3 _ _ _ _ _ _ _ _ (by first | rfl | exact (Nat.zero_add _).symm) (by first | rfl | exact (Nat.zero_add _).symm) (by first | rfl | exact (Nat.zero_add _).symm))
    | (intro a; exact ld2 _ _ _ _ _ _ (by first | rfl | exact (Nat.zero_add _).symm) (by first | rfl | exact (Nat.zero_add _).symm))
    | (intro a b; exact zero_at _ _)
    | exact fun _ _ => tDec_piece 0 named_lg.1 rfl rfl rfl
    | exact fun _ _ => tDec_piece 1 named_lg.2.1 rfl rfl rfl
    | exact fun _ _ => tDec_piece 2 named_lg.2.2.1 rfl rfl rfl
    | exact fun _ _ => tDec_piece 3 named_lg.2.2.2.1 rfl rfl rfl
    | exact fun _ _ => tDec_piece 4 named_lg.2.2.2.2.1 rfl rfl rfl
    | exact fun _ _ => tDec_piece 5 named_lg.2.2.2.2.2.1 rfl rfl rfl
    | exact fun _ _ => tDec_piece 6 named_lg.2.2.2.2.2.2.1 rfl rfl rfl
    | exact fun _ _ => tDec_piece 7 named_lg.2.2.2.2.2.2.2 rfl rfl rfl
    | exact fun _ _ => tXi_piece 0 named_lg.1 rfl rfl rfl
    | exact fun _ _ => tXi_piece 1 named_lg.2.1 rfl rfl rfl
    | exact fun _ _ => tXi_piece 2 named_lg.2.2.1 rfl rfl rfl
    | exact fun _ _ => tXi_piece 3 named_lg.2.2.2.1 rfl rfl rfl
    | exact fun _ _ => tXi_piece 4 named_lg.2.2.2.2.1 rfl rfl rfl
    | exact fun _ _ => tXi_piece 5 named_lg.2.2.2.2.2.1 rfl rfl rfl
    | exact fun _ _ => tXi_piece 6 named_lg.2.2.2.2.2.2.1 rfl rfl rfl
    | exact fun _ _ => tXi_piece 7 named_lg.2.2.2.2.2.2.2 rfl rfl rfl

theorem out_C (hc0 : ¬cond0_0 i) (hc1 : cond0_1 i) :
    out0_C_5 c i arg2 harg2 arg3 harg3 arg4 harg4 arg5 harg5 arg6 harg6 arg7 harg7 arg8 harg8 arg9 harg9 arg10 harg10 arg11 harg11 hc0 hc1 x0 x1 x2 x3 x4 xs1 xs2 xs3 = POut x0 x1 x2 x3 x4 (fun _ => 0) xs1 xs2 := by
  funext y
  frame_open
  simp (disch := decide) only [↓ View.readCov_skip, ↓ View.readCov_cons_toLoadRect, ↓ View.readCov_fill]
  frame_out
  canon_tiles x h
  all_goals first
    | refine hOut_piece 0 h1 (by omega) ?_ ?_ ?_ ?_ ?_ ?_ ?_ ?_
    | refine hOut_piece 1 h1 (by omega) ?_ ?_ ?_ ?_ ?_ ?_ ?_ ?_
    | refine hOut_piece 2 h1 (by omega) ?_ ?_ ?_ ?_ ?_ ?_ ?_ ?_
    | refine hOut_piece 3 h1 (by omega) ?_ ?_ ?_ ?_ ?_ ?_ ?_ ?_
    | refine hOut_piece 4 h1 (by omega) ?_ ?_ ?_ ?_ ?_ ?_ ?_ ?_
    | refine hOut_piece 5 h1 (by omega) ?_ ?_ ?_ ?_ ?_ ?_ ?_ ?_
    | refine hOut_piece 6 h1 (by omega) ?_ ?_ ?_ ?_ ?_ ?_ ?_ ?_
    | refine hOut_piece 7 h1 (by omega) ?_ ?_ ?_ ?_ ?_ ?_ ?_ ?_
  all_goals first
    | (intro a b; exact ld3 _ _ _ _ _ _ _ _ (by first | rfl | exact (Nat.zero_add _).symm) (by first | rfl | exact (Nat.zero_add _).symm) (by first | rfl | exact (Nat.zero_add _).symm))
    | (intro a; exact ld2 _ _ _ _ _ _ (by first | rfl | exact (Nat.zero_add _).symm) (by first | rfl | exact (Nat.zero_add _).symm))
    | (intro a b; exact zero_at _ _)
    | exact fun _ _ => tDec_piece 0 named_lg.1 rfl rfl rfl
    | exact fun _ _ => tDec_piece 1 named_lg.2.1 rfl rfl rfl
    | exact fun _ _ => tDec_piece 2 named_lg.2.2.1 rfl rfl rfl
    | exact fun _ _ => tDec_piece 3 named_lg.2.2.2.1 rfl rfl rfl
    | exact fun _ _ => tDec_piece 4 named_lg.2.2.2.2.1 rfl rfl rfl
    | exact fun _ _ => tDec_piece 5 named_lg.2.2.2.2.2.1 rfl rfl rfl
    | exact fun _ _ => tDec_piece 6 named_lg.2.2.2.2.2.2.1 rfl rfl rfl
    | exact fun _ _ => tDec_piece 7 named_lg.2.2.2.2.2.2.2 rfl rfl rfl
    | exact fun _ _ => tXi_piece 0 named_lg.1 rfl rfl rfl
    | exact fun _ _ => tXi_piece 1 named_lg.2.1 rfl rfl rfl
    | exact fun _ _ => tXi_piece 2 named_lg.2.2.1 rfl rfl rfl
    | exact fun _ _ => tXi_piece 3 named_lg.2.2.2.1 rfl rfl rfl
    | exact fun _ _ => tXi_piece 4 named_lg.2.2.2.2.1 rfl rfl rfl
    | exact fun _ _ => tXi_piece 5 named_lg.2.2.2.2.2.1 rfl rfl rfl
    | exact fun _ _ => tXi_piece 6 named_lg.2.2.2.2.2.2.1 rfl rfl rfl
    | exact fun _ _ => tXi_piece 7 named_lg.2.2.2.2.2.2.2 rfl rfl rfl

set_option maxHeartbeats 2000000 in
theorem out_A (hc0 : cond0_0 i) (hc1 : cond0_1 i) :
    out0_A_5 c i arg2 harg2 arg3 harg3 arg4 harg4 arg5 harg5 arg6 harg6 arg7 harg7 arg8 harg8 arg9 harg9 arg10 harg10 arg11 harg11 hc0 hc1 x0 x1 x2 x3 x4 = POut x0 x1 x2 x3 x4 (fun _ => 0) PDec PXi := by
  funext y
  frame_open
  simp (disch := decide) only [↓ View.readCov_skip, ↓ View.readCov_cons_toLoadRect, ↓ View.readCov_fill]
  frame_out
  canon_tiles x h
  all_goals first
    | refine hOut_piece 0 h1 (by omega) ?_ ?_ ?_ ?_ ?_ ?_ ?_ ?_
    | refine hOut_piece 1 h1 (by omega) ?_ ?_ ?_ ?_ ?_ ?_ ?_ ?_
    | refine hOut_piece 2 h1 (by omega) ?_ ?_ ?_ ?_ ?_ ?_ ?_ ?_
    | refine hOut_piece 3 h1 (by omega) ?_ ?_ ?_ ?_ ?_ ?_ ?_ ?_
    | refine hOut_piece 4 h1 (by omega) ?_ ?_ ?_ ?_ ?_ ?_ ?_ ?_
    | refine hOut_piece 5 h1 (by omega) ?_ ?_ ?_ ?_ ?_ ?_ ?_ ?_
    | refine hOut_piece 6 h1 (by omega) ?_ ?_ ?_ ?_ ?_ ?_ ?_ ?_
    | refine hOut_piece 7 h1 (by omega) ?_ ?_ ?_ ?_ ?_ ?_ ?_ ?_
  all_goals first
    | (intro a b; exact ld3 _ _ _ _ _ _ _ _ (by first | rfl | exact (Nat.zero_add _).symm) (by first | rfl | exact (Nat.zero_add _).symm) (by first | rfl | exact (Nat.zero_add _).symm))
    | (intro a; exact ld2 _ _ _ _ _ _ (by first | rfl | exact (Nat.zero_add _).symm) (by first | rfl | exact (Nat.zero_add _).symm))
    | (intro a b; exact zero_at _ _)
    | exact fun _ _ => tDec_piece 0 named_lg.1 rfl rfl rfl
    | exact fun _ _ => tDec_piece 1 named_lg.2.1 rfl rfl rfl
    | exact fun _ _ => tDec_piece 2 named_lg.2.2.1 rfl rfl rfl
    | exact fun _ _ => tDec_piece 3 named_lg.2.2.2.1 rfl rfl rfl
    | exact fun _ _ => tDec_piece 4 named_lg.2.2.2.2.1 rfl rfl rfl
    | exact fun _ _ => tDec_piece 5 named_lg.2.2.2.2.2.1 rfl rfl rfl
    | exact fun _ _ => tDec_piece 6 named_lg.2.2.2.2.2.2.1 rfl rfl rfl
    | exact fun _ _ => tDec_piece 7 named_lg.2.2.2.2.2.2.2 rfl rfl rfl
    | exact fun _ _ => tXi_piece 0 named_lg.1 rfl rfl rfl
    | exact fun _ _ => tXi_piece 1 named_lg.2.1 rfl rfl rfl
    | exact fun _ _ => tXi_piece 2 named_lg.2.2.1 rfl rfl rfl
    | exact fun _ _ => tXi_piece 3 named_lg.2.2.2.1 rfl rfl rfl
    | exact fun _ _ => tXi_piece 4 named_lg.2.2.2.2.1 rfl rfl rfl
    | exact fun _ _ => tXi_piece 5 named_lg.2.2.2.2.2.1 rfl rfl rfl
    | exact fun _ _ => tXi_piece 6 named_lg.2.2.2.2.2.2.1 rfl rfl rfl
    | exact fun _ _ => tXi_piece 7 named_lg.2.2.2.2.2.2.2 rfl rfl rfl

end

end Cert.RetIdeal.Value

end

end
-- ==== Proof.KSweep.lean ====
/- The retention kernel's array, read off its sweep over the grid: every batch's retention, chunk by chunk. -/
module

public import proofs.«01_k».proof.Proof.KCase

@[expose] public section

set_option maxRecDepth 16384

noncomputable section

open Idealize.ShloMosaic Idealize.ShloMosaic.TcCoe Idealize.SL.Sem
open Idealize.ShloMosaic.Pipeline (Dat)

namespace Cert.RetIdeal.Value

open Cert.RetIdeal Cert.RetIdeal.Gen Cert.RetModel

variable (m : (ℓ : Loc nD τ sig) → Buf (Elt Ideal) ℓ)

/-- The arguments of the retention, by batch. -/
def qA (c : Dev nD) : Fin 32 → Fin 2048 → Fin 1024 → EReal := fun b r l => m ((c : Thread nD τ).loc main_arg0) (ix3 b r l)
def kA (c : Dev nD) : Fin 32 → Fin 2048 → Fin 1024 → EReal := fun b r l => m ((c : Thread nD τ).loc main_arg1) (ix3 b r l)
def vA (c : Dev nD) : Fin 32 → Fin 2048 → Fin 2048 → EReal := fun b r l => m ((c : Thread nD τ).loc main_arg2) (ix3 b r l)
def gA (c : Dev nD) : Fin 32 → Fin 2048 → Fin 2048 → EReal := fun b r l => m ((c : Thread nD τ).loc main_arg3) (ix3 b r l)
def nA (c : Dev nD) : Fin 2048 → EReal := fun l => m ((c : Thread nD τ).loc main_arg4) (ix2 0 l)

/-- The windows' block indices. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![0, 0] := by
  decide +kernel

theorem lt512 (t : Fin cfg0.N) : t.val < 512 := lt_of_lt_of_eq t.isLt (show cfg0.N = 512 from N_0)

/-- A point's batch. -/
abbrev bt (t : Fin cfg0.N) : Fin 32 := ⟨t.val / 16, by have := lt512 t; omega⟩

theorem blk0 (c : Dev nD) (t : Fin cfg0.N) (s : Fin 128) (l : Fin 1024) : iblk m c 0 t (ix3 0 s l) = qA m c (bt t) (row (t.val % 16) s) l := by
  have := lt512 t
  unfold qA
  blk_ext [iblk, V, idx t]
theorem blk1 (c : Dev nD) (t : Fin cfg0.N) (s : Fin 128) (l : Fin 1024) : iblk m c 1 t (ix3 0 s l) = kA m c (bt t) (row (t.val % 16) s) l := by
  have := lt512 t
  unfold kA
  blk_ext [iblk, V, idx t]
theorem blk2 (c : Dev nD) (t : Fin cfg0.N) (s : Fin 128) (l : Fin 2048) : iblk m c 2 t (ix3 0 s l) = vA m c (bt t) (row (t.val % 16) s) l := by
  have := lt512 t
  unfold vA
  blk_ext [iblk, V, idx t]
theorem blk3 (c : Dev nD) (t : Fin cfg0.N) (s : Fin 128) (l : Fin 2048) : iblk m c 3 t (ix3 0 s l) = gA m c (bt t) (row (t.val % 16) s) l := by
  have := lt512 t
  unfold gA
  blk_ext [iblk, V, idx t]
theorem blk4 (c : Dev nD) (t : Fin cfg0.N) (l : Fin 2048) : iblk m c 4 t (ix2 0 l) = nA m c l := by
  unfold nA
  blk_ext [iblk, V, idx t]

/-- The state before chunk `n` of batch `b`, as the kernel holds it. -/
def KState (c : Dev nD) (b : Fin 32) (n : ℕ) : Vec Ideal S8x128x256 .f32 := fun y => state (kA m c b) (vA m c b) (y 0) n (y 1) (y 2)

theorem state_step (c : Dev nD) (t : Fin cfg0.N) :
    PState (iblk m c 1 t) (iblk m c 2 t) (KState m c (bt t) (t.val % 16)) PZeta = KState m c (bt t) (t.val % 16 + 1) := by
  funext y
  unfold PState
  simp only [blk1, blk2]
  rfl

theorem state_first (c : Dev nD) (b : Fin 32) : (fun _ => 0 : Vec Ideal S8x128x256 .f32) = KState m c b 0 := rfl

/-- What the points leave: the carried state after each point and the tables. -/
def Left (c : Dev nD) (t : Fin cfg0.N) : Vec Ideal S1x128x2048 .bf16 × Vec Ideal S8x128x256 .f32 × Vec Ideal S8x128x128 .f32 × Vec Ideal S8x128x128 .f32 × Vec Ideal S8x128x128 .f32 :=
  (POut (iblk m c 0 t) (iblk m c 1 t) (iblk m c 2 t) (iblk m c 3 t) (iblk m c 4 t) (KState m c (bt t) (t.val % 16)) PDec PXi,
    KState m c (bt t) (t.val % 16 + 1), PDec, PXi, PZeta)

theorem left_eq (c : Dev nD) : ∀ (n : ℕ) (hn : n < cfg0.N), outsAt0 m c n hn = Left m c ⟨n, hn⟩ := by
  intro n
  induction n with
  | zero =>
    intro hn
    rw [outsAt0_A m c ⟨0, hn⟩ (Nat.zero_mod _) (Nat.zero_mod _), out_A, state_A, decay_A, xi_A, zeta_A, state_first m c (bt ⟨0, hn⟩)]
    exact congrArg₂ Prod.mk rfl (congrArg₂ Prod.mk (state_step m c ⟨0, hn⟩) rfl)
  | succ n ih =>
    intro hn
    have hN := lt512 ⟨n + 1, hn⟩
    have hN' : n + 1 < 512 := hN
    have h0 : ¬ (⟨n + 1, hn⟩ : Fin cfg0.N).val % 512 = 0 := by show ¬ (n + 1) % 512 = 0; omega
    have e := ih (Nat.lt_of_succ_lt hn)
    have hs : KState m c (bt ⟨n + 1, hn⟩) ((n + 1) % 16) = (if (n + 1) % 16 = 0 then (fun _ => 0) else KState m c (bt ⟨n, Nat.lt_of_succ_lt hn⟩) (n % 16 + 1)) := by
      split
      · next h => rw [h]; rfl
      · next h =>
        have e1 : (n + 1) % 16 = n % 16 + 1 := by omega
        have e2 : bt ⟨n + 1, hn⟩ = bt ⟨n, Nat.lt_of_succ_lt hn⟩ := Fin.ext (by show (n + 1) / 16 = n / 16; omega)
        rw [e1, e2]
    rw [outsAt0_succ, e]
    by_cases h1 : (n + 1) % 16 = 0
    · rw [if_pos h1] at hs
      refine (stAt0_C m c ⟨n + 1, hn⟩ _ h0 h1).trans ?_
      rw [out_C, state_C, ← hs]
      exact congrArg₂ Prod.mk rfl (congrArg₂ Prod.mk (state_step m c ⟨n + 1, hn⟩) rfl)
    · rw [if_neg h1] at hs
      refine (stAt0_B m c ⟨n + 1, hn⟩ _ h0 h1).trans ?_
      rw [out_B, state_B]
      show (POut _ _ _ _ _ (KState m c (bt ⟨n, _⟩) (n % 16 + 1)) PDec PXi, PState _ _ (KState m c (bt ⟨n, _⟩) (n % 16 + 1)) PZeta, _) = _
      rw [← hs]
      exact congrArg₂ Prod.mk rfl (congrArg₂ Prod.mk (state_step m c ⟨n + 1, hn⟩) rfl)

/-- What a point writes is the retention's rows of the point's chunk. -/
theorem out_at (c : Dev nD) (t : Fin cfg0.N) (i : Fin 1) (r : Fin 128) (l : Fin 2048) (R : Fin 2048) (hR : R.val = t.val % 16 * 128 + r.val) :
    (Left m c t).1 (ix3 i r l) = result (qA m c) (kA m c) (vA m c) (gA m c) (nA m c) (bt t) R l := by
  have e1 : R.val / 128 = t.val % 16 := by omega
  have e2 : (⟨R.val % 128, by omega⟩ : Fin 128) = r := Fin.ext (by show R.val % 128 = r.val; omega)
  have e3 : row (t.val % 16) r = R := Fin.ext (by show (t.val % 16 * 128 + r.val) % 2048 = R.val; omega)
  unfold Left POut result
  dsimp only [ix3_1, ix3_2]
  simp only [blk0, blk1, blk2, blk3, blk4, e1, e2, e3]
  refine congrArg (fun o => normed o _ _ _) (funext fun e => ?_)
  unfold out
  rw [e3]
  rfl

/-- The kernel's array is the retention. -/
theorem G5_at (c : Dev nD) (b : Fin 32) (R l : Fin 2048) :
    G5 m c (ix3 b R l) = result (qA m c) (kA m c) (vA m c) (gA m c) (nA m c) b R l := by
  have hp : pt5Of (ix3 b R l) = 16 * b.val + R.val / 128 := by
    show 16 * (b.val / 1 - 0) + 1 * (R.val / 128 - 0) + 1 * (l.val / 2048 - 0) = _
    omega
  have ht : pt5Of (ix3 b R l) < cfg0.N := by rw [hp, show cfg0.N = 512 from N_0]; omega
  unfold G5
  rw [dif_pos ht, ← outsAt0_sweep m c _ ht, left_eq]
  have hloc : loc5Of (ix3 b R l) = ix3 0 ⟨R.val % 128, by omega⟩ l := by
    funext a
    match a with
    | 0 => exact Fin.ext (Nat.mod_one _)
    | 1 => rfl
    | 2 => exact Fin.ext (Nat.mod_eq_of_lt l.isLt)
  rw [hloc, out_at m c _ _ _ _ R (by show R.val = pt5Of (ix3 b R l) % 16 * 128 + R.val % 128; rw [hp]; omega)]
  have hb : bt ⟨pt5Of (ix3 b R l), ht⟩ = b := Fin.ext (by show pt5Of (ix3 b R l) / 16 = b.val; rw [hp]; omega)
  rw [hb]

end Cert.RetIdeal.Value

end

end
-- ==== Proof.RetRef.lean ====
/- The retention written plainly: the constants it takes from logarithms, what its scan carries, and its result. -/
module

public import proofs.«01_k».proof.Proof.RetModel
public import proofs.«01_k».proof.Proof.Gen.RetRefIdeal.Run
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem
open Idealize.ShloMosaic.Pipeline (Dat)

open Idealize.ShloMosaic.Pipeline Idealize.ShloMosaic.StableHlo

namespace Cert.RetRefIdeal.Value

open Cert.RetRefIdeal Cert.RetRefIdeal.Gen Cert.RetModel

variable (m : (ℓ : Loc nD τ sig) → Buf (Elt Ideal) ℓ)

theorem gamma_pos (h : Fin 8) : 0 < gamma h := by
  have h1 : (1 : ℝ) ≤ 2 ^ h.val := one_le_pow₀ (by norm_num)
  have h2 : 1 / (32 * (2 : ℝ) ^ h.val) < 1 := by
    rw [div_lt_one (by positivity)]
    linarith
  unfold gamma
  linarith

theorem two_eq : Ideal.ofBits .f32 0x40000000#32 = ((2 : ℝ) : EReal) := by
  simp [Ideal.ofBits, Ideal.ieee, -EReal.coe_mul]; norm_num
theorem minus_five_eq : Ideal.ofBits .f32 0xC0A00000#32 = ((-5 : ℝ) : EReal) := by
  simp [Ideal.ofBits, Ideal.ieee, -EReal.coe_mul, -EReal.coe_neg]; norm_num
theorem chunk_len_eq : Ideal.ofBits .f32 0x43000000#32 = ((128 : ℝ) : EReal) := by
  simp [Ideal.ofBits, Ideal.ieee, -EReal.coe_mul]; norm_num

theorem head_eq (h : Fin 8) : FloatOps.sitofp (F := Ideal) .f32 (BitVec.ofNat 32 h.val) = ((h.val : ℝ) : EReal) := by
  have e : (BitVec.ofNat 32 h.val).toInt = (h.val : Int) := by fin_cases h <;> rfl
  show (((BitVec.ofNat 32 h.val).toInt : ℝ) : EReal) = _
  rw [e]
  norm_cast

/-- The logarithm of a head's decay as the reference takes it. -/
theorem log_eq (h : Fin 8) : Ideal.log (1 - Ideal.pow (Ideal.ofBits .f32 0x40000000#32)
    (Ideal.ofBits .f32 0xC0A00000#32 - FloatOps.sitofp (F := Ideal) .f32 (BitVec.ofNat 32 h.val))) = lg h := by
  have hp : Real.rpow 2 (-5 - (h.val : ℝ)) = 1 / (32 * 2 ^ h.val) := by
    show (2 : ℝ) ^ (-5 - (h.val : ℝ)) = _
    rw [Real.rpow_sub (by norm_num), Real.rpow_neg (by norm_num), Real.rpow_natCast]
    norm_num
    rw [div_eq_mul_inv, mul_comm]
  rw [two_eq, minus_five_eq, head_eq, ← EReal.coe_sub, Ideal.pow_coe_coe, hp, ← EReal.coe_one, ← EReal.coe_sub, Ideal.log_coe]
  exact if_neg (not_le.mpr (gamma_pos h))

/-- A head's decay over a chunk as the reference takes it. -/
theorem chunk_eq (h : Fin 8) : Ideal.exp (Ideal.ofBits .f32 0x43000000#32 * lg h) = gc h := by
  unfold lg gc
  rw [chunk_len_eq, ← EReal.coe_mul, Ideal.exp_coe]
  refine congrArg _ ?_
  conv_rhs => rw [← Real.exp_log (gamma_pos h), ← Real.exp_nat_mul]
  norm_num

/-! What the scan starts from. -/
theorem e0 (c : Dev nD) (n : Fin 16) (b : Fin 32) (h : Fin 8) (r d : Fin 128) :
    entryContents preI m c (Proc.devRef .tc main_v55_0) (ix5 n b h r d) = m ((c.tc : Thread nD τ).loc main_arg0) (ix3 b (row n r) (ql h d)) := by
  simp only [entryContents, afterL_cons, afterL_nil]
  after_reads_simp
  simp only [id_eq, TRef.toBuf, TRef.ofBuf, cast_eq]
  pointwise
  blk_ext [launchContents]
theorem e1 (c : Dev nD) (n : Fin 16) (b : Fin 32) (h : Fin 8) (r d : Fin 128) :
    entryContents preI m c (Proc.devRef .tc main_v55_1) (ix5 n b h r d) = m ((c.tc : Thread nD τ).loc main_arg1) (ix3 b (row n r) (ql h d)) := by
  simp only [entryContents, afterL_cons, afterL_nil]
  after_reads_simp
  simp only [id_eq, TRef.toBuf, TRef.ofBuf, cast_eq]
  pointwise
  blk_ext [launchContents]
theorem e2 (c : Dev nD) (n : Fin 16) (b : Fin 32) (h : Fin 8) (r : Fin 128) (d : Fin 256) :
    entryContents preI m c (Proc.devRef .tc main_v55_2) (ix5 n b h r d) = m ((c.tc : Thread nD τ).loc main_arg2) (ix3 b (row n r) (vl h d)) := by
  simp only [entryContents, afterL_cons, afterL_nil]
  after_reads_simp
  simp only [id_eq, TRef.toBuf, TRef.ofBuf, cast_eq]
  pointwise
  blk_ext [launchContents]
theorem e3 (c : Dev nD) (h : Fin 8) (r s : Fin 128) :
    entryContents preI m c (Proc.devRef .tc main_v55_3) (ix3 h r s) = dec h r s := by
  simp only [entryContents, afterL_cons, afterL_nil]
  after_reads_simp
  simp only [id_eq, TRef.toBuf, TRef.ofBuf, cast_eq]
  pointwise
  rw [log_eq]
  rfl
theorem e4 (c : Dev nD) (h : Fin 8) (r : Fin 128) :
    entryContents preI m c (Proc.devRef .tc main_v55_4) (ix2 h r) = xi h r := by
  simp only [entryContents, afterL_cons, afterL_nil]
  after_reads_simp
  simp only [id_eq, TRef.toBuf, TRef.ofBuf, cast_eq]
  pointwise
  rw [log_eq]
  rfl
theorem e5 (c : Dev nD) (h : Fin 8) :
    entryContents preI m c (Proc.devRef .tc main_v55_5) (ix1 h) = gc h := by
  simp only [entryContents, afterL_cons, afterL_nil]
  after_reads_simp
  simp only [id_eq, TRef.toBuf, TRef.ofBuf, cast_eq]
  pointwise
  rw [log_eq, chunk_eq]
theorem e6 (c : Dev nD) (h : Fin 8) (r : Fin 128) :
    entryContents preI m c (Proc.devRef .tc main_v55_6) (ix2 h r) = zeta h r := by
  simp only [entryContents, afterL_cons, afterL_nil]
  after_reads_simp
  simp only [id_eq, TRef.toBuf, TRef.ofBuf, cast_eq]
  pointwise
  rw [log_eq]
  rfl
theorem e8 (c : Dev nD) (b : Fin 32) (h : Fin 8) (d : Fin 128) (f : Fin 256) :
    entryContents preI m c (Proc.devRef .tc main_v55_8) (ix4 b h d f) = (0 : EReal) := by
  simp only [entryContents, afterL_cons, afterL_nil]
  after_reads_simp
  simp only [id_eq, TRef.toBuf, TRef.ofBuf, cast_eq]
  pointwise

/-! What a valuation's carried arrays hold. -/

section
variable (V : Valuation τ sig (Elt Ideal))
abbrev bQ (n : Fin 16) (b : Fin 32) (h : Fin 8) (r d : Fin 128) : EReal := V (Proc.devRef .tc main_v55_0) (ix5 n b h r d)
abbrev bK (n : Fin 16) (b : Fin 32) (h : Fin 8) (r d : Fin 128) : EReal := V (Proc.devRef .tc main_v55_1) (ix5 n b h r d)
abbrev bV (n : Fin 16) (b : Fin 32) (h : Fin 8) (r : Fin 128) (e : Fin 256) : EReal := V (Proc.devRef .tc main_v55_2) (ix5 n b h r e)
abbrev bD (h : Fin 8) (r s : Fin 128) : EReal := V (Proc.devRef .tc main_v55_3) (ix3 h r s)
abbrev bX (h : Fin 8) (r : Fin 128) : EReal := V (Proc.devRef .tc main_v55_4) (ix2 h r)
abbrev bC (h : Fin 8) : EReal := V (Proc.devRef .tc main_v55_5) (ix1 h)
abbrev bZ (h : Fin 8) (r : Fin 128) : EReal := V (Proc.devRef .tc main_v55_6) (ix2 h r)
abbrev bS (b : Fin 32) (h : Fin 8) (d : Fin 128) (e : Fin 256) : EReal := V (Proc.devRef .tc main_v55_8) (ix4 b h d e)
abbrev bO (n : Fin 16) (b : Fin 32) (h : Fin 8) (r : Fin 128) (e : Fin 256) : EReal := V (Proc.devRef .tc main_v55_9) (ix5 n b h r e)
end

/-! One trip, from any contents with the counter at `n`. -/

theorem start_eq (n : ℕ) (hn : n < 16) (x : (⟨S_, .i32⟩ : BufTy).Contents (Elt Ideal)) (hx : x = fun _ => BitVec.ofNat 32 n) (a : Fin 5) :
    ((![x, constantI S_ 32 0#32, constantI S_ 32 0#32, constantI S_ 32 0#32, constantI S_ 32 0#32] : Fin 5 → (⟨S_, .i32⟩ : BufTy).Contents (Elt Ideal)) a
      (Shape.Idx.first h_S_)).toInt = ((![n, 0, 0, 0, 0] : Fin 5 → ℕ) a : Int) := by
  subst hx
  match a with
  | 0 => show (BitVec.ofNat 32 n).toInt = (n : Int); interval_cases n <;> rfl
  | 1 => rfl
  | 2 => rfl
  | 3 => rfl
  | 4 => rfl

theorem fits128 (n : ℕ) (hn : n < 16) : S16x32x8x128x128.Slices (![n, 0, 0, 0, 0] : Fin 5 → ℕ) S1x32x8x128x128 :=
  ⟨rfl, fun a => by
    match a with
    | 0 => show n + 1 ≤ 16; omega
    | 1 => exact Nat.le_refl _
    | 2 => exact Nat.le_refl _
    | 3 => exact Nat.le_refl _
    | 4 => exact Nat.le_refl _⟩

theorem fits256 (n : ℕ) (hn : n < 16) : S16x32x8x128x256.Slices (![n, 0, 0, 0, 0] : Fin 5 → ℕ) S1x32x8x128x256 :=
  ⟨rfl, fun a => by
    match a with
    | 0 => show n + 1 ≤ 16; omega
    | 1 => exact Nat.le_refl _
    | 2 => exact Nat.le_refl _
    | 3 => exact Nat.le_refl _
    | 4 => exact Nat.le_refl _⟩

section
variable (V : Valuation τ sig (Elt Ideal)) (n : ℕ) (hn : n < 16) (hc : V (Proc.devRef .tc main_v55_7) = fun _ => BitVec.ofNat 32 n)
include hc

theorem rd0 (b : Fin 32) (h : Fin 8) (r d : Fin 128) :
    res_main_while0b_v84 V (ix4 b h r d) = bQ V ⟨n, hn⟩ b h r d := by
  unfold res_main_while0b_v84
  rw [WordCmp.dynamicSlice_eq_extract _ _ _ _ _ (fits128 n hn) ?_]
  · pointwise
  · exact fun a => start_eq n hn _ hc a
theorem rd1 (b : Fin 32) (h : Fin 8) (r d : Fin 128) :
    res_main_while0b_v85 V (ix4 b h r d) = bK V ⟨n, hn⟩ b h r d := by
  unfold res_main_while0b_v85
  rw [WordCmp.dynamicSlice_eq_extract _ _ _ _ _ (fits128 n hn) ?_]
  · pointwise
  · exact fun a => start_eq n hn _ hc a
theorem rd2 (b : Fin 32) (h : Fin 8) (r : Fin 128) (e : Fin 256) :
    res_main_while0b_v86 V (ix4 b h r e) = bV V ⟨n, hn⟩ b h r e := by
  unfold res_main_while0b_v86
  rw [WordCmp.dynamicSlice_eq_extract _ _ _ _ _ (fits256 n hn) ?_]
  · pointwise
  · exact fun a => start_eq n hn _ hc a

theorem step8 (b : Fin 32) (h : Fin 8) (d : Fin 128) (e : Fin 256) :
    step_main_v55_8 V (ix4 b h d e) = bC V h * bS V b h d e
      + ∑ s : Fin 128, bK V ⟨n, hn⟩ b h s d * bZ V h s
          * bV V ⟨n, hn⟩ b h s e := by
  unfold step_main_v55_8
  rw [id_eq]
  pointwise
  simp only [rd1 V n hn hc, rd2 V n hn hc]

theorem step9 (n' : Fin 16) (b : Fin 32) (h : Fin 8) (r : Fin 128) (e : Fin 256) :
    step_main_v55_9 V (ix5 n' b h r e) = if n'.val = n then
      (∑ s : Fin 128, (∑ d : Fin 128, bQ V ⟨n, hn⟩ b h r d * bK V ⟨n, hn⟩ b h s d)
          * bD V h r s * bV V ⟨n, hn⟩ b h s e)
        + (∑ d : Fin 128, bQ V ⟨n, hn⟩ b h r d * bS V b h d e)
          * bX V h r
      else bO V n' b h r e := by
  unfold step_main_v55_9
  rw [id_eq, WordCmp.dynamicUpdateSlice_eq_update _ _ _ _ _ (fits256 n hn) ?_]
  · pointwise
    by_cases e : n'.val = n
    · rw [dif_pos ⟨by omega, by omega⟩, if_pos e]
      simp only [rd0 V n hn hc, rd1 V n hn hc, rd2 V n hn hc]
    · rw [dif_neg (by omega), if_neg e]
  · exact fun a => start_eq n hn _ hc a

end

/-! The scan. -/

theorem keep {r : DevRef τ sig} (h : ∀ V : Valuation τ sig (Elt Ideal), STEP V r = V r) (V : Valuation τ sig (Elt Ideal)) :
    ∀ k, STEP^[k] V r = V r
  | 0 => rfl
  | k + 1 => by rw [Function.iterate_succ_apply', h, keep h V k]

/-- What the scan carries before trip `k`. -/
def at_ (c : Dev nD) (k : ℕ) : Valuation τ sig (Elt Ideal) := STEP^[k] (entryContents preI m c)

theorem at_zero (c : Dev nD) : at_ m c 0 = entryContents preI m c := rfl
theorem at_succ (c : Dev nD) (k : ℕ) : at_ m c (k + 1) = STEP (at_ m c k) := Function.iterate_succ_apply' _ _ _

theorem ctr_at (c : Dev nD) : ∀ k, at_ m c k (Proc.devRef .tc main_v55_7) = fun _ => BitVec.ofNat 32 k
  | 0 => ctr_entry m c
  | k + 1 => by
    rw [at_succ, STEP_main_v55_7, step_main_v55_7, ctr_at c k, id_eq]
    funext i
    exact (BitVec.ofNat_add k 1).symm

/-- The arguments of the retention, by batch. -/
def qA (c : Dev nD) : Fin 32 → Fin 2048 → Fin 1024 → EReal := fun b r l => m ((c.tc : Thread nD τ).loc main_arg0) (ix3 b r l)
def kA (c : Dev nD) : Fin 32 → Fin 2048 → Fin 1024 → EReal := fun b r l => m ((c.tc : Thread nD τ).loc main_arg1) (ix3 b r l)
def vA (c : Dev nD) : Fin 32 → Fin 2048 → Fin 2048 → EReal := fun b r l => m ((c.tc : Thread nD τ).loc main_arg2) (ix3 b r l)
def gA (c : Dev nD) : Fin 32 → Fin 2048 → Fin 2048 → EReal := fun b r l => m ((c.tc : Thread nD τ).loc main_arg3) (ix3 b r l)
def nA (c : Dev nD) : Fin 2048 → EReal := fun l => m ((c.tc : Thread nD τ).loc main_arg4) (ix2 0 l)

theorem q_at (c : Dev nD) (k : ℕ) (n : Fin 16) (b : Fin 32) (h : Fin 8) (r d : Fin 128) : bQ (at_ m c k) n b h r d = qA m c b (row n r) (ql h d) := by
  rw [bQ, at_, keep STEP_main_v55_0]; exact e0 m c n b h r d
theorem k_at (c : Dev nD) (k : ℕ) (n : Fin 16) (b : Fin 32) (h : Fin 8) (r d : Fin 128) : bK (at_ m c k) n b h r d = kA m c b (row n r) (ql h d) := by
  rw [bK, at_, keep STEP_main_v55_1]; exact e1 m c n b h r d
theorem v_at (c : Dev nD) (k : ℕ) (n : Fin 16) (b : Fin 32) (h : Fin 8) (r : Fin 128) (e : Fin 256) : bV (at_ m c k) n b h r e = vA m c b (row n r) (vl h e) := by
  rw [bV, at_, keep STEP_main_v55_2]; exact e2 m c n b h r e
theorem d_at (c : Dev nD) (k : ℕ) (h : Fin 8) (r s : Fin 128) : bD (at_ m c k) h r s = dec h r s := by
  rw [bD, at_, keep STEP_main_v55_3]; exact e3 m c h r s
theorem x_at (c : Dev nD) (k : ℕ) (h : Fin 8) (r : Fin 128) : bX (at_ m c k) h r = xi h r := by
  rw [bX, at_, keep STEP_main_v55_4]; exact e4 m c h r
theorem c_at (c : Dev nD) (k : ℕ) (h : Fin 8) : bC (at_ m c k) h = gc h := by
  rw [bC, at_, keep STEP_main_v55_5]; exact e5 m c h
theorem z_at (c : Dev nD) (k : ℕ) (h : Fin 8) (r : Fin 128) : bZ (at_ m c k) h r = zeta h r := by
  rw [bZ, at_, keep STEP_main_v55_6]; exact e6 m c h r

/-- The carried state before trip `k` is the state before chunk `k`. -/
theorem s_at (c : Dev nD) : ∀ k, k ≤ 16 → ∀ (b : Fin 32) (h : Fin 8) (d : Fin 128) (e : Fin 256),
    bS (at_ m c k) b h d e = state (kA m c b) (vA m c b) h k d e
  | 0, _, b, h, d, e => e8 m c b h d e
  | k + 1, hk, b, h, d, e => by
    rw [bS, at_succ, STEP_main_v55_8, step8 _ k (by omega) (ctr_at m c k)]
    have h1 := k_at m c k
    have h2 := v_at m c k
    have h3 := c_at m c k
    have h4 := z_at m c k
    simp only [h1, h2, h3, h4, s_at c k (by omega)]
    rfl

/-- The rows written before trip `k` are the retention's. -/
theorem o_at (c : Dev nD) : ∀ k, k ≤ 16 → ∀ (n : Fin 16) (b : Fin 32) (h : Fin 8) (r : Fin 128) (e : Fin 256), n.val < k →
    bO (at_ m c k) n b h r e = out (qA m c b) (kA m c b) (vA m c b) h n.val r e
  | 0, _, _, _, _, _, _, hn => absurd hn (Nat.not_lt_zero _)
  | k + 1, hk, n, b, h, r, e, hn => by
    rw [bO, at_succ, STEP_main_v55_9, step9 _ k (by omega) (ctr_at m c k)]
    split
    · next hnk =>
      have h1 := q_at m c k
      have h2 := k_at m c k
      have h3 := v_at m c k
      have h4 := d_at m c k
      have h5 := x_at m c k
      simp only [h1, h2, h3, h4, h5, s_at m c k (by omega)]
      rw [hnk]
      rfl
    · exact o_at c k (by omega) n b h r e (by omega)

set_option maxHeartbeats 1000000 in
/-- The rows' mean, variance, gain and gate. -/
theorem final_at (V : Valuation τ sig (Elt Ideal)) (b : Fin 32) (R l : Fin 2048) :
    out_main_v83 V (ix3 b R l) = normed (bO V ⟨R.val / 128, by omega⟩ b ⟨l.val / 256, by omega⟩ ⟨R.val % 128, by omega⟩)
      (V (Proc.devRef .tc main_arg4) (ix2 0 l)) (V (Proc.devRef .tc main_arg3) (ix3 b R l)) ⟨l.val % 256, by omega⟩ := by
  pointwise [out_main_v83]
  rfl

/-- The reference's array is the retention. -/
theorem out_at (c : Dev nD) (b : Fin 32) (R l : Fin 2048) :
    out_main_v83 (at_ m c 16) (ix3 b R l) = result (qA m c) (kA m c) (vA m c) (gA m c) (nA m c) b R l := by
  have hg : at_ m c 16 (Proc.devRef .tc main_arg3) = m ((c.tc : Thread nD τ).loc main_arg3) := iter_main_arg3 m c 16
  have hn : at_ m c 16 (Proc.devRef .tc main_arg4) = m ((c.tc : Thread nD τ).loc main_arg4) := iter_main_arg4 m c 16
  have ho : bO (at_ m c 16) ⟨R.val / 128, by omega⟩ b ⟨l.val / 256, by omega⟩ ⟨R.val % 128, by omega⟩ =
      out (qA m c b) (kA m c b) (vA m c b) ⟨l.val / 256, by omega⟩ (R.val / 128) ⟨R.val % 128, by omega⟩ := by
    funext e
    exact o_at m c 16 le_rfl _ b _ _ e (by show R.val / 128 < 16; omega)
  rw [final_at, hg, hn, ho]
  rfl

end Cert.RetRefIdeal.Value

end

end
-- ==== Proof.RetClaims.lean ====
/-
The claims of the retention call: both programs end with their semaphores at zero, naming the constants keeps every
function, and kernel and reference leave the same array.
-/
module

public import proofs.«01_k».proof.Defs
public import proofs.«01_k».proof.Proof.KSweep
public import proofs.«01_k».proof.Proof.RetRef
public import proofs.«01_k».proof.Proof.Gen.Ret
public import proofs.«01_k».proof.Proof.Gen.Ret.Frame
public import proofs.«01_k».proof.Proof.Gen.RetIdeal
public import proofs.«01_k».proof.Proof.Gen.RetIdeal.Frame
public import proofs.«01_k».proof.Proof.Gen.RetIdeal.Value
public import proofs.«01_k».proof.Proof.Gen.RetRefIdeal
public import proofs.«01_k».proof.Proof.Gen.RetRefIdeal.Run
public import Idealize.ShloMosaic.Adequacy
public import Idealize.ShloMosaic.Init

@[expose] public section

set_option maxRecDepth 16384

noncomputable section

namespace Cert.RetClaims

open Idealize.ShloMosaic Idealize.ShloMosaic.Pipeline Idealize.SL.Sem

theorem frame_p : Cert.quiescent_Ret := fun m ρ _ => Cert.Ret.Gen.frame m ρ
theorem frame_pi : Cert.quiescent_RetIdeal := fun m ρ _ => Cert.RetIdeal.Gen.frame m ρ
theorem frame_ri : Cert.quiescent_RetRefIdeal := fun m ρ _ =>
  (θ_run Cert.RetRefIdeal.defs _ _).mono
    (fun r h => ⟨fun c => (h c).2, Idealize.ShloMosaic.sem_eq_zero_of_no_sems (by decide) r.2⟩)
    (Cert.RetRefIdeal.Value.run (F := Ideal) m ρ)

theorem preserves : Cert.preserves_Ret_RetIdeal :=
  ⟨IdealRules.named_const.statement Cert.RetIdeal.κ "log_g0" .f32 0xBD020AEC#32 _ rfl,
   IdealRules.named_const.statement Cert.RetIdeal.κ "log_g1" .f32 0xBC8102B3#32 _ rfl,
   IdealRules.named_const.statement Cert.RetIdeal.κ "log_g2" .f32 0xBC0080AC#32 _ rfl,
   IdealRules.named_const.statement Cert.RetIdeal.κ "log_g3" .f32 0xBB80402B#32 _ rfl,
   IdealRules.named_const.statement Cert.RetIdeal.κ "log_g4" .f32 0xBB00200B#32 _ rfl,
   IdealRules.named_const.statement Cert.RetIdeal.κ "log_g5" .f32 0xBA801003#32 _ rfl,
   IdealRules.named_const.statement Cert.RetIdeal.κ "log_g6" .f32 0xBA000801#32 _ rfl,
   IdealRules.named_const.statement Cert.RetIdeal.κ "log_g7" .f32 0xB9800400#32 _ rfl,
   IdealRules.named_const.statement Cert.RetIdeal.κ "chunk_g0" .f32 0x3C8CC36A#32 _ rfl,
   IdealRules.named_const.statement Cert.RetIdeal.κ "chunk_g1" .f32 0x3E08698E#32 _ rfl,
   IdealRules.named_const.statement Cert.RetIdeal.κ "chunk_g2" .f32 0x3EBB9DB9#32 _ rfl,
   IdealRules.named_const.statement Cert.RetIdeal.κ "chunk_g3" .f32 0x3F1B1EB1#32 _ rfl,
   IdealRules.named_const.statement Cert.RetIdeal.κ "chunk_g4" .f32 0x3F475303#32 _ rfl,
   IdealRules.named_const.statement Cert.RetIdeal.κ "chunk_g5" .f32 0x3F61E7C9#32 _ rfl,
   IdealRules.named_const.statement Cert.RetIdeal.κ "chunk_g6" .f32 0x3F707C6F#32 _ rfl,
   IdealRules.named_const.statement Cert.RetIdeal.κ "chunk_g7" .f32 0x3F781F6D#32 _ rfl⟩

theorem algebraic : Cert.algebraic_RetIdeal_RetRefIdeal := by
  intro m ρ m' ρ' _ hagree
  refine ⟨_, Cert.RetIdeal.Value.run (F := Ideal) m ρ, ?_⟩
  refine (θ_run Cert.RetRefIdeal.defs _ _).mono (fun _ h c => ⟨(h c).1.trans ?_, (h c).2⟩)
    (Cert.RetRefIdeal.Value.run (F := Ideal) m' ρ')
  obtain ⟨h0, h1, h2, h3, h4⟩ := hagree c
  show Cert.RetRefIdeal.Value.out_main_v83 (Cert.RetRefIdeal.Value.at_ m' c 16) = _
  funext i
  obtain ⟨b, R, l, rfl⟩ := Cert.RetIdeal.Value.ex3 i
  rw [Cert.RetRefIdeal.Value.out_at]
  refine Eq.trans ?_ (Cert.RetIdeal.Value.G5_at m c b R l).symm
  have e0 : Cert.RetRefIdeal.Value.qA m' c = Cert.RetIdeal.Value.qA m c := funext fun b => funext fun r => funext fun l => congrFun h0 (ix3 b r l)
  have e1 : Cert.RetRefIdeal.Value.kA m' c = Cert.RetIdeal.Value.kA m c := funext fun b => funext fun r => funext fun l => congrFun h1 (ix3 b r l)
  have e2 : Cert.RetRefIdeal.Value.vA m' c = Cert.RetIdeal.Value.vA m c := funext fun b => funext fun r => funext fun l => congrFun h2 (ix3 b r l)
  have e3 : Cert.RetRefIdeal.Value.gA m' c = Cert.RetIdeal.Value.gA m c := funext fun b => funext fun r => funext fun l => congrFun h3 (ix3 b r l)
  have e4 : Cert.RetRefIdeal.Value.nA m' c = Cert.RetIdeal.Value.nA m c := funext fun l => congrFun h4 (ix2 0 l)
  rw [e0, e1, e2, e3, e4]

end Cert.RetClaims

end

end
-- ==== Proof.TailModel.lean ====
/-
The layer's tail as plain functions of one row: the gated merge of the two mixers' outputs, the squared-ReLU MLP, the gated
per-layer embedding and the final norm. The MLP's sum over 4096 hidden lanes is the sum of four sums over 1024 of them.
-/
module

public import Idealize.ShloMosaic.PureOps.Ideal
public import Idealize.ShloMosaic.Lib.Claim
public import Mathlib.Algebra.BigOperators.Fin

@[expose] public section

noncomputable section

namespace Cert.TailModel

open Idealize.ShloMosaic

/-- A row times a matrix. -/
def mul {n k : ℕ} (x : Fin n → EReal) (w : Fin n → Fin k → EReal) (j : Fin k) : EReal := ∑ i, x i * w i j

/-- A row of 1024 lanes over the root of its mean square, with a gain. -/
def rms (x g : Fin 1024 → EReal) (j : Fin 1024) : EReal :=
  x j * Ideal.rsqrt (Ideal.div (∑ i, x i * x i) (Ideal.ofBits .f32 0x44800000#32) + Ideal.ofBits .f32 0x358637BD#32) * g j

/-- The squared ReLU. -/
def relu2 (x : EReal) : EReal := max x 0 * max x 0

/-- Lane `j` of the first 1024 of 2048 lanes, and of the last. -/
abbrev lo (j : Fin 1024) : Fin 2048 := ⟨j.val, by omega⟩
abbrev hi (j : Fin 1024) : Fin 2048 := ⟨1024 + j.val, by omega⟩

/-- What the two mixers add to a row `x`: their outputs `yr` and `yn`, projected, gated by the normed row and projected. -/
def mixed (x : Fin 1024 → EReal) (yr : Fin 2048 → EReal) (yn : Fin 1024 → EReal) (gm : Fin 1024 → EReal)
    (wmg : Fin 1024 → Fin 2048 → EReal) (wro : Fin 2048 → Fin 1024 → EReal) (wno wout : Fin 1024 → Fin 1024 → EReal) :
    Fin 1024 → EReal :=
  mul (fun i => Ideal.logistic (mul (rms x gm) wmg (lo i)) * mul yr wro i
    + Ideal.logistic (mul (rms x gm) wmg (hi i)) * mul yn wno i) wout

/-- The MLP of a row `h`, over `n` hidden lanes. -/
def hid {n : ℕ} (h : Fin 1024 → EReal) (up : Fin 1024 → Fin n → EReal) (dn : Fin n → Fin 1024 → EReal) : Fin 1024 → EReal :=
  mul (fun u => relu2 (mul h up u)) dn

/-- What the per-layer embedding `p` adds to a row `x`. -/
def embedded (x : Fin 1024 → EReal) (p : Fin 256 → EReal) (gp : Fin 1024 → EReal) (wpg : Fin 1024 → Fin 1024 → EReal)
    (wpp : Fin 256 → Fin 1024 → EReal) (j : Fin 1024) : EReal :=
  mul p wpp j * Ideal.logistic (mul (rms x gp) wpg j)

/-- The tail of a row. -/
def tail (x : Fin 1024 → EReal) (yr : Fin 2048 → EReal) (yn : Fin 1024 → EReal) (p : Fin 256 → EReal)
    (gm gl gp gf : Fin 1024 → EReal) (wmg : Fin 1024 → Fin 2048 → EReal) (wro : Fin 2048 → Fin 1024 → EReal)
    (wno wout : Fin 1024 → Fin 1024 → EReal) (wup : Fin 1024 → Fin 4096 → EReal) (wdn : Fin 4096 → Fin 1024 → EReal)
    (wpg : Fin 1024 → Fin 1024 → EReal) (wpp : Fin 256 → Fin 1024 → EReal) : Fin 1024 → EReal :=
  let x1 := fun j => x j + mixed x yr yn gm wmg wro wno wout j
  let x2 := fun j => x1 j + hid (rms x1 gl) wup wdn j
  let x3 := fun j => x2 j + embedded x2 p gp wpg wpp j
  rms x3 gf

/-- Lane `u` of the `c`-th 1024 of 4096 lanes. -/
abbrev at4 (c : Fin 4) (u : Fin 1024) : Fin 4096 := ⟨c.val * 1024 + u.val, by omega⟩

theorem sum4 (f : Fin 4096 → EReal) :
    ∑ u, f u = 0 + (∑ u, f (at4 0 u)) + (∑ u, f (at4 1 u)) + (∑ u, f (at4 2 u)) + ∑ u, f (at4 3 u) := by
  have h : ∑ u : Fin (1024 + 1024 + 1024 + 1024), f u = ∑ u : Fin 4096, f u := rfl
  rw [← h, Fin.sum_univ_add, Fin.sum_univ_add, Fin.sum_univ_add, zero_add]
  refine congrArg₂ (· + ·) (congrArg₂ (· + ·) (congrArg₂ (· + ·) ?_ ?_) ?_) ?_ <;>
    exact Finset.sum_congr rfl fun u _ => congrArg f (Fin.ext (by simp <;> omega))

/-- The MLP over 4096 hidden lanes, in four parts of 1024. -/
theorem hid4 (h : Fin 1024 → EReal) (up : Fin 1024 → Fin 4096 → EReal) (dn : Fin 4096 → Fin 1024 → EReal) (j : Fin 1024) :
    hid h up dn j = 0 + hid h (fun k u => up k (at4 0 u)) (fun u => dn (at4 0 u)) j + hid h (fun k u => up k (at4 1 u)) (fun u => dn (at4 1 u)) j
      + hid h (fun k u => up k (at4 2 u)) (fun u => dn (at4 2 u)) j + hid h (fun k u => up k (at4 3 u)) (fun u => dn (at4 3 u)) j :=
  sum4 fun u => relu2 (mul h up u) * dn u j

end Cert.TailModel

end

end
-- ==== Proof.TailK.lean ====
/- What the tail kernel leaves: every row of its result is the tail of that row of its arguments. -/
module

public import proofs.«01_k».proof.Proof.TailModel
public import proofs.«01_k».proof.Proof.Gen.TailIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TailIdeal.Value

open Cert.TailIdeal Cert.TailIdeal.Gen Cert.TailModel

/-- A matrix, by row and column. -/
abbrev mat {n k : ℕ} {e : FTy} (v : FVec Ideal ⟨2, ![n, k]⟩ e) (a : Fin n) (b : Fin k) : EReal := v (ix2 a b)

/-- An index of a matrix, by row and column. -/
theorem ex2 {n k : ℕ} (i : (⟨2, ![n, k]⟩ : Shape).Idx) : ∃ (a : Fin n) (b : Fin k), i = ix2 a b :=
  ⟨i 0, i 1, by funext a; fin_cases a <;> rfl⟩

/-! The values of one grid point, at row `r` and lane `j`. -/

theorem pay2_at (v0 : FVec Ideal S256x1024 .f32) (v1 : FVec Ideal S1x1024 .f32) (v15 : FVec Ideal S256x2048 .bf16) (v16 : FVec Ideal S2048x1024 .bf16)
    (v18 : FVec Ideal S256x1024 .bf16) (v19 v21 v24 v31 : FVec Ideal S1024x1024 .bf16) (r : Fin 256) (j : Fin 1024) :
    k0_pay2 (F := Ideal) v0 v1 v15 v16 v18 v19 v21 v24 v31 (ix2 r j)
      = mul (fun i => Ideal.logistic (mul (rms (mat v0 r) (mat v1 0)) (mat v21) i) * mul (mat v15 r) (mat v16) i
          + Ideal.logistic (mul (rms (mat v0 r) (mat v1 0)) (mat v24) i) * mul (mat v18 r) (mat v19) i) (mat v31) j := by
  pointwise [k0_pay2]
  rfl

theorem pay3_at (v0 v32 : FVec Ideal S256x1024 .f32) (r : Fin 256) (j : Fin 1024) :
    k0_pay3 (F := Ideal) v0 v32 (ix2 r j) = mat v0 r j + mat v32 r j := by
  pointwise [k0_pay3]

theorem pay4_at (v0 v32 : FVec Ideal S256x1024 .f32) (v34 : FVec Ideal S1x1024 .f32) (r : Fin 256) (j : Fin 1024) :
    k0_pay4 (F := Ideal) v0 v32 v34 (ix2 r j) = rms (mat (k0_pay3 (F := Ideal) v0 v32) r) (mat v34 0) j := by
  pointwise [k0_pay4]
  rfl

theorem pay5_at (v0 v32 : FVec Ideal S256x1024 .f32) (v34 : FVec Ideal S1x1024 .f32) (v49 v55 v58 v64 : FVec Ideal S1024x1024 .bf16)
    (r : Fin 256) (j : Fin 1024) :
    k0_pay5 (F := Ideal) v0 v32 v34 v49 v55 v58 v64 (ix2 r j)
      = 0 + hid (mat (k0_pay4 (F := Ideal) v0 v32 v34) r) (mat v49) (mat v55) j + hid (mat (k0_pay4 (F := Ideal) v0 v32 v34) r) (mat v58) (mat v64) j := by
  pointwise [k0_pay5]
  rfl

theorem pay6_at (v0 v32 : FVec Ideal S256x1024 .f32) (v34 : FVec Ideal S1x1024 .f32) (v67 : FVec Ideal S1024x1024 .bf16)
    (r : Fin 256) (j : Fin 1024) :
    k0_pay6 (F := Ideal) v0 v32 v34 v67 (ix2 r j) = mul (mat (k0_pay4 (F := Ideal) v0 v32 v34) r) (mat v67) j := by
  pointwise [k0_pay6]
  rfl

theorem pay7_at (v33 : FVec Ideal S256x1024 .f32) (v47 : FVec Ideal S256x1024 .bf16) (v66 v68 : FVec Ideal S256x1024 .f32)
    (v73 v76 v82 : FVec Ideal S1024x1024 .bf16) (r : Fin 256) (j : Fin 1024) :
    k0_pay7 (F := Ideal) v33 v47 v66 v68 (Scalar.ofBits .f32 0x00000000#32) v73 v76 v82 (ix2 r j)
      = mat v33 r j + (mat v66 r j + mul (fun u => relu2 (mat v68 r u)) (mat v73) j + hid (mat v47 r) (mat v76) (mat v82) j) := by
  pointwise [k0_pay7]
  rfl

theorem pay8_at (v33 : FVec Ideal S256x1024 .f32) (v47 : FVec Ideal S256x1024 .bf16) (v66 v68 : FVec Ideal S256x1024 .f32) (z : Ideal .f32)
    (v73 v76 v82 : FVec Ideal S1024x1024 .bf16) (v86 : FVec Ideal S1x1024 .f32) (v100 : FVec Ideal S1024x1024 .bf16) (r : Fin 256) (j : Fin 1024) :
    k0_pay8 (F := Ideal) v33 v47 v66 v68 z v73 v76 v82 v86 v100 (ix2 r j)
      = Ideal.logistic (mul (rms (mat (k0_pay7 (F := Ideal) v33 v47 v66 v68 z v73 v76 v82) r) (mat v86 0)) (mat v100) j) := by
  pointwise [k0_pay8]
  rfl

theorem pay1_at (v85 v102 : FVec Ideal S256x1024 .f32) (v104 : FVec Ideal S256x256 .bf16) (v105 : FVec Ideal S256x1024 .bf16)
    (v109 : FVec Ideal S1x1024 .f32) (r : Fin 256) (j : Fin 1024) :
    k0_pay1 (F := Ideal) v85 v102 v104 v105 (constant S256x1024 .f32 0x00000000#32) v109 (ix2 r j)
      = rms (fun j => mat v85 r j + mul (mat v104 r) (mat v105) j * mat v102 r j) (mat v109 0) j := by
  pointwise [k0_pay1]
  rfl

/-! The loads of a part of a weight. -/

theorem ld5 (x : FVec Ideal S1024x2048 .bf16) :
    mat (e := .bf16) (View.ld (Val := Elt Ideal) (e' := .bf16) x r0_5) = fun k u : Fin 1024 => mat x k (lo u) := by
  funext k u
  show (View.ld (Val := Elt Ideal) (e' := .bf16) x r0_5) (ix2 k u) = x (ix2 k (lo u))
  pointwise

theorem ld6 (x : FVec Ideal S1024x2048 .bf16) :
    mat (e := .bf16) (View.ld (Val := Elt Ideal) (e' := .bf16) x r0_6) = fun k u : Fin 1024 => mat x k (hi u) := by
  funext k u
  show (View.ld (Val := Elt Ideal) (e' := .bf16) x r0_6) (ix2 k u) = x (ix2 k (hi u))
  pointwise

theorem ld7 (x : FVec Ideal S1024x4096 .bf16) :
    mat (e := .bf16) (View.ld (Val := Elt Ideal) (e' := .bf16) x r0_7) = fun k u : Fin 1024 => mat x k (at4 0 u) := by
  funext k u
  show (View.ld (Val := Elt Ideal) (e' := .bf16) x r0_7) (ix2 k u) = x (ix2 k (at4 0 u))
  pointwise
  exact congrArg (fun a => x (ix2 k a)) (Fin.ext (Nat.zero_add _).symm)

theorem ld8 (x : FVec Ideal S4096x1024 .bf16) :
    mat (e := .bf16) (View.ld (Val := Elt Ideal) (e' := .bf16) x r0_8) = fun k u : Fin 1024 => mat x (at4 0 k) u := by
  funext k u
  show (View.ld (Val := Elt Ideal) (e' := .bf16) x r0_8) (ix2 k u) = x (ix2 (at4 0 k) u)
  pointwise
  try blk_ext

theorem ld9 (x : FVec Ideal S1024x4096 .bf16) :
    mat (e := .bf16) (View.ld (Val := Elt Ideal) (e' := .bf16) x r0_9) = fun k u : Fin 1024 => mat x k (at4 1 u) := by
  funext k u
  show (View.ld (Val := Elt Ideal) (e' := .bf16) x r0_9) (ix2 k u) = x (ix2 k (at4 1 u))
  pointwise
  try blk_ext

theorem ld10 (x : FVec Ideal S4096x1024 .bf16) :
    mat (e := .bf16) (View.ld (Val := Elt Ideal) (e' := .bf16) x r0_10) = fun k u : Fin 1024 => mat x (at4 1 k) u := by
  funext k u
  show (View.ld (Val := Elt Ideal) (e' := .bf16) x r0_10) (ix2 k u) = x (ix2 (at4 1 k) u)
  pointwise
  try blk_ext

theorem ld11 (x : FVec Ideal S1024x4096 .bf16) :
    mat (e := .bf16) (View.ld (Val := Elt Ideal) (e' := .bf16) x r0_11) = fun k u : Fin 1024 => mat x k (at4 2 u) := by
  funext k u
  show (View.ld (Val := Elt Ideal) (e' := .bf16) x r0_11) (ix2 k u) = x (ix2 k (at4 2 u))
  pointwise
  try blk_ext

theorem ld12 (x : FVec Ideal S4096x1024 .bf16) :
    mat (e := .bf16) (View.ld (Val := Elt Ideal) (e' := .bf16) x r0_12) = fun k u : Fin 1024 => mat x (at4 2 k) u := by
  funext k u
  show (View.ld (Val := Elt Ideal) (e' := .bf16) x r0_12) (ix2 k u) = x (ix2 (at4 2 k) u)
  pointwise
  try blk_ext

theorem ld13 (x : FVec Ideal S1024x4096 .bf16) :
    mat (e := .bf16) (View.ld (Val := Elt Ideal) (e' := .bf16) x r0_13) = fun k u : Fin 1024 => mat x k (at4 3 u) := by
  funext k u
  show (View.ld (Val := Elt Ideal) (e' := .bf16) x r0_13) (ix2 k u) = x (ix2 k (at4 3 u))
  pointwise
  try blk_ext

theorem ld14 (x : FVec Ideal S4096x1024 .bf16) :
    mat (e := .bf16) (View.ld (Val := Elt Ideal) (e' := .bf16) x r0_14) = fun k u : Fin 1024 => mat x (at4 3 k) u := by
  funext k u
  show (View.ld (Val := Elt Ideal) (e' := .bf16) x r0_14) (ix2 k u) = x (ix2 (at4 3 k) u)
  pointwise
  try blk_ext

section
variable (x0 : FVec Ideal S256x1024 .f32) (x1 : FVec Ideal S256x2048 .bf16) (x2 : FVec Ideal S256x1024 .bf16) (x3 : FVec Ideal S256x256 .f32)
  (x4 x5 x6 x7 : FVec Ideal S1x1024 .f32) (x8 : FVec Ideal S1024x2048 .bf16) (x9 : FVec Ideal S2048x1024 .bf16)
  (x10 x11 : FVec Ideal S1024x1024 .bf16) (x12 : FVec Ideal S1024x4096 .bf16) (x13 : FVec Ideal S4096x1024 .bf16)
  (x14 : FVec Ideal S1024x1024 .bf16) (x15 : FVec Ideal S256x1024 .bf16)

theorem pay10_at (r : Fin 256) (j : Fin 1024) : k0_pay10 (F := Ideal) x0 x1 x2 x3 x4 x5 x6 x7 x8 x9 x10 x11 x12 x13 x14 x15 (ix2 r j)
    = mixed (mat x0 r) (mat x1 r) (mat x2 r) (mat x4 0) (mat x8) (mat x9) (mat x10) (mat x11) j := by
  unfold k0_pay10
  frame_out
  rw [pay2_at, ld5, ld6]
  rfl

/-- The row after the mixers, and after the MLP. -/
abbrev row1 (r : Fin 256) (j : Fin 1024) : EReal := mat x0 r j + mixed (mat x0 r) (mat x1 r) (mat x2 r) (mat x4 0) (mat x8) (mat x9) (mat x10) (mat x11) j
abbrev row2 (r : Fin 256) (j : Fin 1024) : EReal := row1 x0 x1 x2 x4 x8 x9 x10 x11 r j
  + hid (rms (row1 x0 x1 x2 x4 x8 x9 x10 x11 r) (mat x5 0)) (mat x12) (mat x13) j

theorem pay11_row (r : Fin 256) : mat (k0_pay11 (F := Ideal) x0 x1 x2 x3 x4 x5 x6 x7 x8 x9 x10 x11 x12 x13 x14 x15) r = row1 x0 x1 x2 x4 x8 x9 x10 x11 r := by
  funext j
  show (k0_pay11 (F := Ideal) x0 x1 x2 x3 x4 x5 x6 x7 x8 x9 x10 x11 x12 x13 x14 x15) (ix2 r j) = _
  unfold k0_pay11
  frame_out
  rw [pay3_at]
  exact congrArg (mat x0 r j + ·) (pay10_at x0 x1 x2 x3 x4 x5 x6 x7 x8 x9 x10 x11 x12 x13 x14 x15 r j)

theorem pay4_row (r : Fin 256) : mat (k0_pay4 (F := Ideal) x0 (k0_pay10 (F := Ideal) x0 x1 x2 x3 x4 x5 x6 x7 x8 x9 x10 x11 x12 x13 x14 x15) x5) r = rms (row1 x0 x1 x2 x4 x8 x9 x10 x11 r) (mat x5 0) := by
  funext j
  show (k0_pay4 (F := Ideal) x0 (k0_pay10 (F := Ideal) x0 x1 x2 x3 x4 x5 x6 x7 x8 x9 x10 x11 x12 x13 x14 x15) x5) (ix2 r j) = _
  rw [pay4_at]
  refine congrArg (fun x => rms x (mat x5 0) j) (funext fun i => ?_)
  show k0_pay3 (F := Ideal) x0 (k0_pay10 (F := Ideal) x0 x1 x2 x3 x4 x5 x6 x7 x8 x9 x10 x11 x12 x13 x14 x15) (ix2 r i) = _
  rw [pay3_at]
  exact congrArg (mat x0 r i + ·) (pay10_at x0 x1 x2 x3 x4 x5 x6 x7 x8 x9 x10 x11 x12 x13 x14 x15 r i)

theorem pay12_row (r : Fin 256) : mat (k0_pay12 (F := Ideal) x0 x1 x2 x3 x4 x5 x6 x7 x8 x9 x10 x11 x12 x13 x14 x15) r = rms (row1 x0 x1 x2 x4 x8 x9 x10 x11 r) (mat x5 0) := by
  rw [← pay4_row x0 x1 x2 x3 x4 x5 x6 x7 x8 x9 x10 x11 x12 x13 x14 x15 r]
  funext j
  show (k0_pay12 (F := Ideal) x0 x1 x2 x3 x4 x5 x6 x7 x8 x9 x10 x11 x12 x13 x14 x15) (ix2 r j) = _
  unfold k0_pay12
  frame_out

theorem pay13_at (r : Fin 256) (j : Fin 1024) : (k0_pay13 (F := Ideal) x0 x1 x2 x3 x4 x5 x6 x7 x8 x9 x10 x11 x12 x13 x14 x15) (ix2 r j)
    = 0 + hid (rms (row1 x0 x1 x2 x4 x8 x9 x10 x11 r) (mat x5 0)) (fun k u => mat x12 k (at4 0 u)) (fun u => mat x13 (at4 0 u)) j
      + hid (rms (row1 x0 x1 x2 x4 x8 x9 x10 x11 r) (mat x5 0)) (fun k u => mat x12 k (at4 1 u)) (fun u => mat x13 (at4 1 u)) j := by
  unfold k0_pay13
  frame_out
  rw [pay5_at, pay4_row, ld7, ld8, ld9, ld10]

theorem pay14_at (r : Fin 256) (j : Fin 1024) : (k0_pay14 (F := Ideal) x0 x1 x2 x3 x4 x5 x6 x7 x8 x9 x10 x11 x12 x13 x14 x15) (ix2 r j)
    = mul (rms (row1 x0 x1 x2 x4 x8 x9 x10 x11 r) (mat x5 0)) (fun k u => mat x12 k (at4 2 u)) j := by
  unfold k0_pay14
  frame_out
  rw [pay6_at, pay4_row, ld11]

theorem pay7_row (r : Fin 256) : mat (k0_pay7 (F := Ideal) (k0_pay11 (F := Ideal) x0 x1 x2 x3 x4 x5 x6 x7 x8 x9 x10 x11 x12 x13 x14 x15) (k0_pay12 (F := Ideal) x0 x1 x2 x3 x4 x5 x6 x7 x8 x9 x10 x11 x12 x13 x14 x15) (k0_pay13 (F := Ideal) x0 x1 x2 x3 x4 x5 x6 x7 x8 x9 x10 x11 x12 x13 x14 x15) (k0_pay14 (F := Ideal) x0 x1 x2 x3 x4 x5 x6 x7 x8 x9 x10 x11 x12 x13 x14 x15) (Scalar.ofBits .f32 0x00000000#32)
    (View.ld x13 r0_12) (View.ld x12 r0_13) (View.ld x13 r0_14)) r = row2 x0 x1 x2 x4 x5 x8 x9 x10 x11 x12 x13 r := by
  funext j
  refine (pay7_at _ _ _ _ _ _ _ r j).trans ?_
  have e13 : mat (k0_pay13 (F := Ideal) x0 x1 x2 x3 x4 x5 x6 x7 x8 x9 x10 x11 x12 x13 x14 x15) r j = _ := pay13_at x0 x1 x2 x3 x4 x5 x6 x7 x8 x9 x10 x11 x12 x13 x14 x15 r j
  have e14 : mat (k0_pay14 (F := Ideal) x0 x1 x2 x3 x4 x5 x6 x7 x8 x9 x10 x11 x12 x13 x14 x15) r = _ := funext (pay14_at x0 x1 x2 x3 x4 x5 x6 x7 x8 x9 x10 x11 x12 x13 x14 x15 r)
  rw [pay11_row, pay12_row, e13, e14, ld12, ld13, ld14]
  show _ = _ + hid _ _ _ j
  rw [hid4]
  rfl

theorem out_at (r : Fin 256) (j : Fin 1024) : out0_16 (F := Ideal) x0 x1 x2 x3 x4 x5 x6 x7 x8 x9 x10 x11 x12 x13 x14 x15 (ix2 r j)
    = tail (mat x0 r) (mat x1 r) (mat x2 r) (mat x3 r) (mat x4 0) (mat x5 0) (mat x6 0) (mat x7 0) (mat x8) (mat x9) (mat x10) (mat x11)
      (mat x12) (mat x13) (mat x14) (mat x15) j := by
  unfold out0_16
  frame_out
  refine (pay1_at _ _ _ _ _ r j).trans ?_
  show _ = rms (fun j => row2 x0 x1 x2 x4 x5 x8 x9 x10 x11 x12 x13 r j
    + mul (mat x3 r) (mat x15) j * Ideal.logistic (mul (rms (row2 x0 x1 x2 x4 x5 x8 x9 x10 x11 x12 x13 r) (mat x6 0)) (mat x14) j)) (mat x7 0) j
  have e7 := pay7_row x0 x1 x2 x3 x4 x5 x6 x7 x8 x9 x10 x11 x12 x13 x14 x15 r
  refine congrArg (fun x => rms x (mat x7 0) j) (funext fun i => ?_)
  refine Ideal.add_congr (congrFun e7 i) (Ideal.mul_congr ?_ ((pay8_at _ _ _ _ _ _ _ _ _ _ r i).trans ?_))
  · refine congrArg (fun x => mul x (mat x15) i) (funext fun k => ?_)
    show k0_pay9 (F := Ideal) x3 (ix2 r k) = x3 (ix2 r k)
    pointwise [k0_pay9]
  · exact congrArg (fun x => Ideal.logistic (mul (rms x (mat x6 0)) (mat x14) i)) e7
end

section
variable (m : (ℓ : Loc nD τ sig) → Buf (Elt Ideal) ℓ)

/-- The arguments as matrices. -/
abbrev a0 (c : Dev nD) : Fin 65536 → Fin 1024 → EReal := fun r l => m ((c : Thread nD τ).loc main_arg0) (ix2 r l)
abbrev a1 (c : Dev nD) : Fin 65536 → Fin 2048 → EReal := fun r l => m ((c : Thread nD τ).loc main_arg1) (ix2 r l)
abbrev a2 (c : Dev nD) : Fin 65536 → Fin 1024 → EReal := fun r l => m ((c : Thread nD τ).loc main_arg2) (ix2 r l)
abbrev a3 (c : Dev nD) : Fin 65536 → Fin 256 → EReal := fun r l => m ((c : Thread nD τ).loc main_arg3) (ix2 r l)
abbrev a4 (c : Dev nD) : Fin 1 → Fin 1024 → EReal := fun r l => m ((c : Thread nD τ).loc main_arg4) (ix2 r l)
abbrev a5 (c : Dev nD) : Fin 1 → Fin 1024 → EReal := fun r l => m ((c : Thread nD τ).loc main_arg5) (ix2 r l)
abbrev a6 (c : Dev nD) : Fin 1 → Fin 1024 → EReal := fun r l => m ((c : Thread nD τ).loc main_arg6) (ix2 r l)
abbrev a7 (c : Dev nD) : Fin 1 → Fin 1024 → EReal := fun r l => m ((c : Thread nD τ).loc main_arg7) (ix2 r l)
abbrev a8 (c : Dev nD) : Fin 1024 → Fin 2048 → EReal := fun r l => m ((c : Thread nD τ).loc main_arg8) (ix2 r l)
abbrev a9 (c : Dev nD) : Fin 2048 → Fin 1024 → EReal := fun r l => m ((c : Thread nD τ).loc main_arg9) (ix2 r l)
abbrev a10 (c : Dev nD) : Fin 1024 → Fin 1024 → EReal := fun r l => m ((c : Thread nD τ).loc main_arg10) (ix2 r l)
abbrev a11 (c : Dev nD) : Fin 1024 → Fin 1024 → EReal := fun r l => m ((c : Thread nD τ).loc main_arg11) (ix2 r l)
abbrev a12 (c : Dev nD) : Fin 1024 → Fin 4096 → EReal := fun r l => m ((c : Thread nD τ).loc main_arg12) (ix2 r l)
abbrev a13 (c : Dev nD) : Fin 4096 → Fin 1024 → EReal := fun r l => m ((c : Thread nD τ).loc main_arg13) (ix2 r l)
abbrev a14 (c : Dev nD) : Fin 1024 → Fin 1024 → EReal := fun r l => m ((c : Thread nD τ).loc main_arg14) (ix2 r l)
abbrev a15 (c : Dev nD) : Fin 256 → Fin 1024 → EReal := fun r l => m ((c : Thread nD τ).loc main_arg15) (ix2 r l)

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![t.val, 0] := by
  decide +kernel

theorem lt256 (t : Fin cfg0.N) : t.val < 256 := lt_of_lt_of_eq t.isLt (show cfg0.N = 256 from N_0)

/-- Row `r` of a point's 256 rows. -/
abbrev at0 (t : Fin cfg0.N) (r : Fin 256) : Fin 65536 := ⟨t.val * 256 + r.val, by have := lt256 t; omega⟩

theorem blk0 (c : Dev nD) (t : Fin cfg0.N) (r : Fin 256) : mat (n := 256) (k := 1024) (e := .f32) (iblk m c 0 t) r = a0 m c (at0 t r) := by
  funext l
  show iblk m c 0 t (ix2 r l) = m ((c : Thread nD τ).loc main_arg0) (ix2 (at0 t r) l)
  have := lt256 t
  blk_ext [iblk, V, idx t]
theorem blk1 (c : Dev nD) (t : Fin cfg0.N) (r : Fin 256) : mat (n := 256) (k := 2048) (e := .bf16) (iblk m c 1 t) r = a1 m c (at0 t r) := by
  funext l
  show iblk m c 1 t (ix2 r l) = m ((c : Thread nD τ).loc main_arg1) (ix2 (at0 t r) l)
  have := lt256 t
  blk_ext [iblk, V, idx t]
theorem blk2 (c : Dev nD) (t : Fin cfg0.N) (r : Fin 256) : mat (n := 256) (k := 1024) (e := .bf16) (iblk m c 2 t) r = a2 m c (at0 t r) := by
  funext l
  show iblk m c 2 t (ix2 r l) = m ((c : Thread nD τ).loc main_arg2) (ix2 (at0 t r) l)
  have := lt256 t
  blk_ext [iblk, V, idx t]
theorem blk3 (c : Dev nD) (t : Fin cfg0.N) (r : Fin 256) : mat (n := 256) (k := 256) (e := .f32) (iblk m c 3 t) r = a3 m c (at0 t r) := by
  funext l
  show iblk m c 3 t (ix2 r l) = m ((c : Thread nD τ).loc main_arg3) (ix2 (at0 t r) l)
  have := lt256 t
  blk_ext [iblk, V, idx t]
theorem blk4 (c : Dev nD) (t : Fin cfg0.N) (r : Fin 1) : mat (n := 1) (k := 1024) (e := .f32) (iblk m c 4 t) r = a4 m c r := by
  funext l
  show iblk m c 4 t (ix2 r l) = m ((c : Thread nD τ).loc main_arg4) (ix2 r l)
  have := lt256 t
  blk_ext [iblk, V, idx t]
theorem blk5 (c : Dev nD) (t : Fin cfg0.N) (r : Fin 1) : mat (n := 1) (k := 1024) (e := .f32) (iblk m c 5 t) r = a5 m c r := by
  funext l
  show iblk m c 5 t (ix2 r l) = m ((c : Thread nD τ).loc main_arg5) (ix2 r l)
  have := lt256 t
  blk_ext [iblk, V, idx t]
theorem blk6 (c : Dev nD) (t : Fin cfg0.N) (r : Fin 1) : mat (n := 1) (k := 1024) (e := .f32) (iblk m c 6 t) r = a6 m c r := by
  funext l
  show iblk m c 6 t (ix2 r l) = m ((c : Thread nD τ).loc main_arg6) (ix2 r l)
  have := lt256 t
  blk_ext [iblk, V, idx t]
theorem blk7 (c : Dev nD) (t : Fin cfg0.N) (r : Fin 1) : mat (n := 1) (k := 1024) (e := .f32) (iblk m c 7 t) r = a7 m c r := by
  funext l
  show iblk m c 7 t (ix2 r l) = m ((c : Thread nD τ).loc main_arg7) (ix2 r l)
  have := lt256 t
  blk_ext [iblk, V, idx t]
theorem blk8 (c : Dev nD) (t : Fin cfg0.N) (r : Fin 1024) : mat (n := 1024) (k := 2048) (e := .bf16) (iblk m c 8 t) r = a8 m c r := by
  funext l
  show iblk m c 8 t (ix2 r l) = m ((c : Thread nD τ).loc main_arg8) (ix2 r l)
  have := lt256 t
  blk_ext [iblk, V, idx t]
theorem blk9 (c : Dev nD) (t : Fin cfg0.N) (r : Fin 2048) : mat (n := 2048) (k := 1024) (e := .bf16) (iblk m c 9 t) r = a9 m c r := by
  funext l
  show iblk m c 9 t (ix2 r l) = m ((c : Thread nD τ).loc main_arg9) (ix2 r l)
  have := lt256 t
  blk_ext [iblk, V, idx t]
theorem blk10 (c : Dev nD) (t : Fin cfg0.N) (r : Fin 1024) : mat (n := 1024) (k := 1024) (e := .bf16) (iblk m c 10 t) r = a10 m c r := by
  funext l
  show iblk m c 10 t (ix2 r l) = m ((c : Thread nD τ).loc main_arg10) (ix2 r l)
  have := lt256 t
  blk_ext [iblk, V, idx t]
theorem blk11 (c : Dev nD) (t : Fin cfg0.N) (r : Fin 1024) : mat (n := 1024) (k := 1024) (e := .bf16) (iblk m c 11 t) r = a11 m c r := by
  funext l
  show iblk m c 11 t (ix2 r l) = m ((c : Thread nD τ).loc main_arg11) (ix2 r l)
  have := lt256 t
  blk_ext [iblk, V, idx t]
theorem blk12 (c : Dev nD) (t : Fin cfg0.N) (r : Fin 1024) : mat (n := 1024) (k := 4096) (e := .bf16) (iblk m c 12 t) r = a12 m c r := by
  funext l
  show iblk m c 12 t (ix2 r l) = m ((c : Thread nD τ).loc main_arg12) (ix2 r l)
  have := lt256 t
  blk_ext [iblk, V, idx t]
theorem blk13 (c : Dev nD) (t : Fin cfg0.N) (r : Fin 4096) : mat (n := 4096) (k := 1024) (e := .bf16) (iblk m c 13 t) r = a13 m c r := by
  funext l
  show iblk m c 13 t (ix2 r l) = m ((c : Thread nD τ).loc main_arg13) (ix2 r l)
  have := lt256 t
  blk_ext [iblk, V, idx t]
theorem blk14 (c : Dev nD) (t : Fin cfg0.N) (r : Fin 1024) : mat (n := 1024) (k := 1024) (e := .bf16) (iblk m c 14 t) r = a14 m c r := by
  funext l
  show iblk m c 14 t (ix2 r l) = m ((c : Thread nD τ).loc main_arg14) (ix2 r l)
  have := lt256 t
  blk_ext [iblk, V, idx t]
theorem blk15 (c : Dev nD) (t : Fin cfg0.N) (r : Fin 256) : mat (n := 256) (k := 1024) (e := .bf16) (iblk m c 15 t) r = a15 m c r := by
  funext l
  show iblk m c 15 t (ix2 r l) = m ((c : Thread nD τ).loc main_arg15) (ix2 r l)
  have := lt256 t
  blk_ext [iblk, V, idx t]

/-- The kernel's result. -/
def result (c : Dev nD) (R : Fin 65536) : Fin 1024 → EReal :=
  tail (a0 m c R) (a1 m c R) (a2 m c R) (a3 m c R) (a4 m c 0) (a5 m c 0) (a6 m c 0) (a7 m c 0) (a8 m c) (a9 m c) (a10 m c) (a11 m c) (a12 m c) (a13 m c) (a14 m c) (a15 m c)

theorem point (c : Dev nD) (t : Fin cfg0.N) (r : Fin 256) (j : Fin 1024) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r j) = result m c (at0 t r) j := by
  have e8 : mat (n := 1024) (k := 2048) (e := .bf16) (iblk m c 8 t) = a8 m c := funext fun r => blk8 m c t r
  have e9 : mat (n := 2048) (k := 1024) (e := .bf16) (iblk m c 9 t) = a9 m c := funext fun r => blk9 m c t r
  have e10 : mat (n := 1024) (k := 1024) (e := .bf16) (iblk m c 10 t) = a10 m c := funext fun r => blk10 m c t r
  have e11 : mat (n := 1024) (k := 1024) (e := .bf16) (iblk m c 11 t) = a11 m c := funext fun r => blk11 m c t r
  have e12 : mat (n := 1024) (k := 4096) (e := .bf16) (iblk m c 12 t) = a12 m c := funext fun r => blk12 m c t r
  have e13 : mat (n := 4096) (k := 1024) (e := .bf16) (iblk m c 13 t) = a13 m c := funext fun r => blk13 m c t r
  have e14 : mat (n := 1024) (k := 1024) (e := .bf16) (iblk m c 14 t) = a14 m c := funext fun r => blk14 m c t r
  have e15 : mat (n := 256) (k := 1024) (e := .bf16) (iblk m c 15 t) = a15 m c := funext fun r => blk15 m c t r
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r j).trans ?_
  rw [blk0 m c t r, blk1 m c t r, blk2 m c t r, blk3 m c t r, blk4 m c t 0, blk5 m c t 0, blk6 m c t 0, blk7 m c t 0,
    e8, e9, e10, e11, e12, e13, e14, e15]
  rfl

theorem final (c : Dev nD) : (dats m 0 c).arrAt 16 cfg0.N = fun i => result m c (i 0) (i 1) := by
  refine (dats m 0 c).arrAt_eq_of_covers 16 _ (by decide +kernel) fun t _ y => ?_
  blk_simp
  rw [after0_16]
  have e : (win0_16.blk t).view.emb y = ix2 (at0 t (y 0)) (y 1) := by
    have := lt256 t
    blk_ext [idx t]
  have ey : y = ix2 (n0 := 256) (n1 := 1024) (y 0) (y 1) := by blk_ext
  rw [e, ey]
  exact point m c t (y 0) (y 1)
end

end Cert.TailIdeal.Value

end

end
-- ==== Proof.TailRef.lean ====
/- What the tail's reference leaves: every row of its result is the tail of that row of its arguments. -/
module

public import proofs.«01_k».proof.Proof.TailModel
public import proofs.«01_k».proof.Proof.Gen.TailRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline Idealize.ShloMosaic.StableHlo

namespace Cert.TailRefIdeal.Value

open Cert.TailRefIdeal Cert.TailRefIdeal.Gen Cert.TailModel

variable (V : Valuation τ sig (Elt Ideal))

/-! The arguments, by row and lane. -/

abbrev aX (R : Fin 65536) (j : Fin 1024) : EReal := V (Proc.devRef .tc main_arg0) (ix2 R j)
abbrev aYr (R : Fin 65536) (j : Fin 2048) : EReal := V (Proc.devRef .tc main_arg1) (ix2 R j)
abbrev aYn (R : Fin 65536) (j : Fin 1024) : EReal := V (Proc.devRef .tc main_arg2) (ix2 R j)
abbrev aP (R : Fin 65536) (j : Fin 256) : EReal := V (Proc.devRef .tc main_arg3) (ix2 R j)
abbrev aGm (j : Fin 1024) : EReal := V (Proc.devRef .tc main_arg4) (ix2 0 j)
abbrev aGl (j : Fin 1024) : EReal := V (Proc.devRef .tc main_arg5) (ix2 0 j)
abbrev aGp (j : Fin 1024) : EReal := V (Proc.devRef .tc main_arg6) (ix2 0 j)
abbrev aGf (j : Fin 1024) : EReal := V (Proc.devRef .tc main_arg7) (ix2 0 j)
abbrev aMg (i : Fin 1024) (j : Fin 2048) : EReal := V (Proc.devRef .tc main_arg8) (ix2 i j)
abbrev aRo (i : Fin 2048) (j : Fin 1024) : EReal := V (Proc.devRef .tc main_arg9) (ix2 i j)
abbrev aNo (i j : Fin 1024) : EReal := V (Proc.devRef .tc main_arg10) (ix2 i j)
abbrev aOut (i j : Fin 1024) : EReal := V (Proc.devRef .tc main_arg11) (ix2 i j)
abbrev aUp (i : Fin 1024) (j : Fin 4096) : EReal := V (Proc.devRef .tc main_arg12) (ix2 i j)
abbrev aDn (i : Fin 4096) (j : Fin 1024) : EReal := V (Proc.devRef .tc main_arg13) (ix2 i j)
abbrev aPg (i j : Fin 1024) : EReal := V (Proc.devRef .tc main_arg14) (ix2 i j)
abbrev aPp (i : Fin 256) (j : Fin 1024) : EReal := V (Proc.devRef .tc main_arg15) (ix2 i j)

/-! The named arrays, by row and lane. -/

abbrev b30 (R : Fin 65536) (j : Fin 2048) : EReal := res_main_v30 V (ix2 R j)
abbrev b37 (R : Fin 65536) (j : Fin 1024) : EReal := res_main_v37 V (ix2 R j)
abbrev b51 (R : Fin 65536) (j : Fin 4096) : EReal := res_main_v51 V (ix2 R j)
abbrev b54 (R : Fin 65536) (j : Fin 1024) : EReal := res_main_v54 V (ix2 R j)
abbrev b76 (R : Fin 65536) (j : Fin 1024) : EReal := res_main_v76 V (ix2 R j)

theorem v30_at (R : Fin 65536) (j : Fin 2048) : b30 V R j = Ideal.logistic (mul (rms (aX V R) (aGm V)) (aMg V) j) := by
  pointwise [b30, res_main_v30]
  rfl

theorem v37_at (R : Fin 65536) (j : Fin 1024) :
    b37 V R j = aX V R j + mul (fun i => b30 V R (lo i) * mul (aYr V R) (aRo V) i + b30 V R (hi i) * mul (aYn V R) (aNo V) i) (aOut V) j := by
  pointwise [b37, res_main_v37]
  rfl

theorem v51_at (R : Fin 65536) (u : Fin 4096) : b51 V R u = max (mul (rms (b37 V R) (aGl V)) (aUp V) u) 0 := by
  pointwise [b51, res_main_v51]
  rfl

theorem v54_at (R : Fin 65536) (j : Fin 1024) : b54 V R j = b37 V R j + mul (fun u => b51 V R u * b51 V R u) (aDn V) j := by
  pointwise [b54, res_main_v54]
  rfl

theorem v76_at (R : Fin 65536) (j : Fin 1024) : b76 V R j = b54 V R j + embedded (b54 V R) (aP V R) (aGp V) (aPg V) (aPp V) j := by
  pointwise [b76, res_main_v76]
  rfl

/-- The last array before the final norm. -/
theorem last_at (R : Fin 65536) : rms (b76 V R) (aGf V)
    = tail (aX V R) (aYr V R) (aYn V R) (aP V R) (aGm V) (aGl V) (aGp V) (aGf V) (aMg V) (aRo V) (aNo V) (aOut V) (aUp V) (aDn V) (aPg V) (aPp V) := by
  have h37 : b37 V R = fun j => aX V R j + mixed (aX V R) (aYr V R) (aYn V R) (aGm V) (aMg V) (aRo V) (aNo V) (aOut V) j := by
    funext j
    have h := v30_at V R
    rw [v37_at]
    simp only [h]
    rfl
  have h54 : b54 V R = fun j => b37 V R j + hid (rms (b37 V R) (aGl V)) (aUp V) (aDn V) j := by
    funext j
    have h := v51_at V R
    rw [v54_at]
    simp only [h]
    rfl
  have h76 : b76 V R = fun j => b54 V R j + embedded (b54 V R) (aP V R) (aGp V) (aPg V) (aPp V) j := funext (v76_at V R)
  rw [h76, h54, h37]
  rfl

/-- The reference's result. -/
theorem result_at (R : Fin 65536) (j : Fin 1024) :
    mulf (mulf (res_main_v76 V) (broadcastInDim S65536x1024 ![0, 1] bcast_S65536x1_S65536x1024_0_1 (Host.rsqrt (addf (Host.divf (broadcastInDim S65536x1 ![0] bcast_S65536_S65536x1_0 (Host.reduceAdd (mulf (res_main_v76 V) (res_main_v76 V)) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (V (Proc.devRef .tc main_arg7))) (ix2 R j)
      = rms (b76 V R) (aGf V) j := by
  pointwise
  rfl

end Cert.TailRefIdeal.Value

end

end
-- ==== Proof.TailClaims.lean ====
/-
The claims of the tail call: both programs end with their semaphores at zero, the idealization rewrites nothing, and kernel
and reference leave the same array.
-/
module

public import proofs.«01_k».proof.Defs
public import proofs.«01_k».proof.Proof.TailK
public import proofs.«01_k».proof.Proof.TailRef
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import Idealize.ShloMosaic.Adequacy
public import Idealize.ShloMosaic.Init

@[expose] public section

set_option maxRecDepth 16384

noncomputable section

namespace Cert.TailClaims

open Idealize.ShloMosaic Idealize.ShloMosaic.Pipeline Idealize.ShloMosaic.StableHlo Idealize.SL.Sem

theorem frame_p : Cert.quiescent_Tail := fun m ρ _ => Cert.Tail.Gen.frame m ρ
theorem frame_pi : Cert.quiescent_TailIdeal := fun m ρ _ => Cert.TailIdeal.Gen.frame m ρ
theorem frame_ri : Cert.quiescent_TailRefIdeal := fun m ρ _ =>
  (θ_run Cert.TailRefIdeal.defs _ _).mono
    (fun r h => ⟨fun c => (h c).2, Idealize.ShloMosaic.sem_eq_zero_of_no_sems (by decide) r.2⟩)
    (Cert.TailRefIdeal.Value.run (F := Ideal) m ρ)

theorem preserves : Cert.preserves_Tail_TailIdeal := trivial

theorem algebraic : Cert.algebraic_TailIdeal_TailRefIdeal := by
  intro m ρ m' ρ' _ hagree
  refine ⟨_, Cert.TailIdeal.Value.run_blocks (F := Ideal) m ρ, ?_⟩
  refine (θ_run Cert.TailRefIdeal.defs _ _).mono (fun _ h c => ⟨(h c).1.trans ?_, (h c).2⟩)
    (Cert.TailRefIdeal.Value.run (F := Ideal) m' ρ')
  obtain ⟨h0, h1, h2, h3, h4, h5, h6, h7, h8, h9, h10, h11, h12, h13, h14, h15⟩ := hagree c
  rw [Cert.TailIdeal.Value.final m c]
  funext i
  obtain ⟨R, j, rfl⟩ := Cert.TailIdeal.Value.ex2 i
  refine (Cert.TailRefIdeal.Value.result_at (launchContents m' c) R j).trans ?_
  rw [Cert.TailRefIdeal.Value.last_at]
  have e0 : Cert.TailRefIdeal.Value.aX (launchContents m' c) = Cert.TailIdeal.Value.a0 m c := funext fun r => funext fun l => congrFun h0 (ix2 r l)
  have e1 : Cert.TailRefIdeal.Value.aYr (launchContents m' c) = Cert.TailIdeal.Value.a1 m c := funext fun r => funext fun l => congrFun h1 (ix2 r l)
  have e2 : Cert.TailRefIdeal.Value.aYn (launchContents m' c) = Cert.TailIdeal.Value.a2 m c := funext fun r => funext fun l => congrFun h2 (ix2 r l)
  have e3 : Cert.TailRefIdeal.Value.aP (launchContents m' c) = Cert.TailIdeal.Value.a3 m c := funext fun r => funext fun l => congrFun h3 (ix2 r l)
  have e4 : Cert.TailRefIdeal.Value.aGm (launchContents m' c) = Cert.TailIdeal.Value.a4 m c 0 := funext fun l => congrFun h4 (ix2 0 l)
  have e5 : Cert.TailRefIdeal.Value.aGl (launchContents m' c) = Cert.TailIdeal.Value.a5 m c 0 := funext fun l => congrFun h5 (ix2 0 l)
  have e6 : Cert.TailRefIdeal.Value.aGp (launchContents m' c) = Cert.TailIdeal.Value.a6 m c 0 := funext fun l => congrFun h6 (ix2 0 l)
  have e7 : Cert.TailRefIdeal.Value.aGf (launchContents m' c) = Cert.TailIdeal.Value.a7 m c 0 := funext fun l => congrFun h7 (ix2 0 l)
  have e8 : Cert.TailRefIdeal.Value.aMg (launchContents m' c) = Cert.TailIdeal.Value.a8 m c := funext fun r => funext fun l => congrFun h8 (ix2 r l)
  have e9 : Cert.TailRefIdeal.Value.aRo (launchContents m' c) = Cert.TailIdeal.Value.a9 m c := funext fun r => funext fun l => congrFun h9 (ix2 r l)
  have e10 : Cert.TailRefIdeal.Value.aNo (launchContents m' c) = Cert.TailIdeal.Value.a10 m c := funext fun r => funext fun l => congrFun h10 (ix2 r l)
  have e11 : Cert.TailRefIdeal.Value.aOut (launchContents m' c) = Cert.TailIdeal.Value.a11 m c := funext fun r => funext fun l => congrFun h11 (ix2 r l)
  have e12 : Cert.TailRefIdeal.Value.aUp (launchContents m' c) = Cert.TailIdeal.Value.a12 m c := funext fun r => funext fun l => congrFun h12 (ix2 r l)
  have e13 : Cert.TailRefIdeal.Value.aDn (launchContents m' c) = Cert.TailIdeal.Value.a13 m c := funext fun r => funext fun l => congrFun h13 (ix2 r l)
  have e14 : Cert.TailRefIdeal.Value.aPg (launchContents m' c) = Cert.TailIdeal.Value.a14 m c := funext fun r => funext fun l => congrFun h14 (ix2 r l)
  have e15 : Cert.TailRefIdeal.Value.aPp (launchContents m' c) = Cert.TailIdeal.Value.a15 m c := funext fun r => funext fun l => congrFun h15 (ix2 r l)
  rw [e0, e1, e2, e3, e4, e5, e6, e7, e8, e9, e10, e11, e12, e13, e14, e15]
  rfl

end Cert.TailClaims

end

end
-- ==== Proof.ProjModel.lean ====
/-
The layer's projection as plain functions of one row: the normed row times the 8192 columns of the stacked weight, with the
rotary turn of the retention's and the sparse attention's queries and keys. Columns are counted over the whole product.
-/
module

public import proofs.«01_k».proof.Proof.TailModel

@[expose] public section

noncomputable section

namespace Cert.ProjModel

open Idealize.ShloMosaic Cert.TailModel

/-- The frequency of lane `l` of a head whose width is the float of bits `d`: ten thousand to the power minus `2 l` over the width. -/
def freq (d : BitVec 32) (l : ℕ) : EReal :=
  Ideal.pow (Ideal.ofBits .f32 0x461C4000#32)
    (Ideal.div (-(Ideal.ofBits .f32 0x40000000#32 * FloatOps.sitofp (F := Ideal) .f32 (BitVec.ofNat 32 l))) (Ideal.ofBits .f32 d))

/-- The frequencies of a retention head (128 lanes) and of a sparse attention head (64 lanes). -/
abbrev freqR : ℕ → EReal := freq 0x43000000#32
abbrev freqN : ℕ → EReal := freq 0x42800000#32

/-- Column `c` of the rotary turn of heads of `2 h` lanes: lane `l` and lane `h + l` turn together by the angle `a l`. -/
def turn (h : ℕ) (y a : ℕ → EReal) (c : ℕ) : EReal :=
  if c % (2 * h) < h then y c * Ideal.cos (a (c % h)) - y (c + h) * Ideal.sin (a (c % h))
  else y c * Ideal.cos (a (c % h)) + y (c - h) * Ideal.sin (a (c % h))

/-- Column `c` of the projected row. -/
def proj (x g : Fin 1024 → EReal) (w : Fin 1024 → Fin 8192 → EReal) (c : ℕ) : EReal := mul (rms x g) w (Fin.ofNat 8192 c)

/-- The results of a row at position `p`: the retention's queries, keys, values and gates, the sparse attention's queries, the
    three pairs of keys and values, and the mixing gates. -/
def rq (x g : Fin 1024 → EReal) (w : Fin 1024 → Fin 8192 → EReal) (p : EReal) (j : ℕ) : EReal :=
  turn 64 (proj x g w) (fun l => p * freqR l) j

def rk (x g : Fin 1024 → EReal) (w : Fin 1024 → Fin 8192 → EReal) (p : EReal) (j : ℕ) : EReal :=
  turn 64 (proj x g w) (fun l => p * freqR l) (1024 + j) * (((Real.sqrt 128)⁻¹ : ℝ) : EReal)

def rv (x g : Fin 1024 → EReal) (w : Fin 1024 → Fin 8192 → EReal) (j : ℕ) : EReal := proj x g w (2048 + j)

def rg (x g : Fin 1024 → EReal) (w : Fin 1024 → Fin 8192 → EReal) (j : ℕ) : EReal := proj x g w (4096 + j)

def nq (x g : Fin 1024 → EReal) (w : Fin 1024 → Fin 8192 → EReal) (p : EReal) (j : ℕ) : EReal :=
  turn 32 (proj x g w) (fun l => p * freqN l) (6144 + j) * Ideal.ofBits .f32 0x3E000000#32

def kv (x g : Fin 1024 → EReal) (w : Fin 1024 → Fin 8192 → EReal) (p : EReal) (j : ℕ) : EReal :=
  if j / 128 % 2 = 0 then turn 32 (proj x g w) (fun l => p * freqN l) (7168 + j) else proj x g w (7168 + j)

def gate (x g : Fin 1024 → EReal) (w : Fin 1024 → Fin 8192 → EReal) (j : ℕ) : EReal := Ideal.logistic (proj x g w (7936 + j))

/-- The reference's root of 128, and the quotient by it. -/
theorem ofBits_128 : Ideal.ofBits .f32 0x43000000#32 = ((128 : ℝ) : EReal) := by
  simp [Ideal.ofBits, Ideal.ieee, -EReal.coe_mul]; norm_num

theorem root128 : Ideal.sqrt (Ideal.ofBits .f32 0x43000000#32) = ((Real.sqrt 128 : ℝ) : EReal) := by
  rw [ofBits_128, Ideal.sqrt_coe, if_neg (show ¬(128 : ℝ) < 0 by norm_num)]

theorem div_root128 (x : EReal) : Ideal.div x ((Real.sqrt 128 : ℝ) : EReal) = x * (((Real.sqrt 128)⁻¹ : ℝ) : EReal) := by
  rw [Ideal.div_coe (show Real.sqrt 128 ≠ 0 from (Real.sqrt_pos.mpr (by norm_num)).ne'), one_div]

end Cert.ProjModel
-- ==== Proof.ProjK.lean ====
/- What the projection kernel leaves: every row of its seven results is that row's projection, turned, scaled or gated. -/
module

public import proofs.«01_k».proof.Proof.ProjModel
public import proofs.«01_k».proof.Proof.Gen.ProjIdeal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen Cert.TailModel Cert.ProjModel

/-- A matrix, by row and column. -/
abbrev mat {n k : ℕ} {e : FTy} (v : FVec Ideal ⟨2, ![n, k]⟩ e) (a : Fin n) (b : Fin k) : EReal := v (ix2 a b)

/-- An index of a matrix, by row and column. -/
theorem ex2 {n k : ℕ} (i : (⟨2, ![n, k]⟩ : Shape).Idx) : ∃ (a : Fin n) (b : Fin k), i = ix2 a b :=
  ⟨i 0, i 1, by funext a; fin_cases a <;> rfl⟩

/-! The shared values of one grid point, at row `r` and lane `l`. -/

theorem pay5_at (x0 : FVec Ideal S256x1024 .f32) (x2 : FVec Ideal S1x1024 .f32) (r : Fin 256) (j : Fin 1024) :
    k0_pay5 (F := Ideal) x0 x2 (ix2 r j) = rms (mat x0 r) (mat x2 0) j := by
  pointwise [k0_pay5]
  rfl

theorem pay15_at (H : FVec Ideal S256x1024 .bf16) (w : FVec Ideal S1024x512 .bf16) (r : Fin 256) (u : Fin 512) :
    k0_pay15 (F := Ideal) H w (ix2 r u) = mul (mat H r) (mat w) u := by
  pointwise [k0_pay15]
  rfl

theorem pay8_at (x1 : FVec Ideal S256x1 .f32) (x3 : FVec Ideal S1x128 .f32) (r : Fin 256) (l : Fin 128) :
    k0_pay8 (F := Ideal) x1 x3 (ix2 r l) = Ideal.cos (mat x1 r 0 * mat x3 0 l) := by
  pointwise [k0_pay8, k0_pay7, k0_pay6]

theorem pay11_at (x1 : FVec Ideal S256x1 .f32) (x4 : FVec Ideal S1x128 .f32) (r : Fin 256) (l : Fin 128) :
    k0_pay11 (F := Ideal) x1 x4 (ix2 r l) = Ideal.cos (mat x1 r 0 * mat x4 0 l) := by
  pointwise [k0_pay11, k0_pay10, k0_pay6]

/-- The first half of a retention head's lanes are those below 64. -/
theorem low64 : ∀ l : Fin 128, IntOp.cmpi CmpIPredicate.slt (BitVec.ofNat 32 l.val) 64#32 = if l.val < 64 then 1 else 0 := by
  decide +kernel

/-- The first half of a sparse attention head's lanes are those whose bit 5 is clear. -/
theorem low32 : ∀ l : Fin 128, IntOp.cmpi CmpIPredicate.eq (IntOp.andi (BitVec.ofNat 32 l.val) 32#32) 0#32
    = if l.val % 64 < 32 then 1 else 0 := by
  decide +kernel

theorem select_if {p : Prop} [Decidable p] (a b : EReal) : Scalar.select (if p then (1 : BitVec 1) else 0) a b = if p then a else b := by
  by_cases h : p <;> simp [h, Scalar.select]

theorem pay9_at (x1 : FVec Ideal S256x1 .f32) (x3 : FVec Ideal S1x128 .f32) (r : Fin 256) (l : Fin 128) :
    k0_pay9 (F := Ideal) x1 x3 (ix2 r l)
      = if l.val < 64 then -Ideal.sin (mat x1 r 0 * mat x3 0 l) else Ideal.sin (mat x1 r 0 * mat x3 0 l) := by
  pointwise [k0_pay9, k0_pay7, k0_pay6]
  rw [low64, select_if, zero_sub]

theorem pay14_at (x1 : FVec Ideal S256x1 .f32) (x4 : FVec Ideal S1x128 .f32) (r : Fin 256) (l : Fin 128) :
    k0_pay14 (F := Ideal) (k0_pay12 (F := Ideal) x1 x4) k0_pay13 (Scalar.ofBits .f32 0x00000000#32) (ix2 r l)
      = if l.val % 64 < 32 then -Ideal.sin (mat x1 r 0 * mat x4 0 l) else Ideal.sin (mat x1 r 0 * mat x4 0 l) := by
  pointwise [k0_pay14, k0_pay12, k0_pay13, k0_pay10, k0_pay6]
  rw [low32, select_if, zero_sub]

/-! A stored block before its scale: 128 columns of a product of 512, turned or as they are. -/

/-- 128 columns of a product, from column `o`. -/
abbrev part (o : ℕ) (h : S256x512.Slices ![0, o] S256x128) (y : FVec Ideal S256x512 .f32) : FVec Ideal S256x128 .f32 :=
  extractStridedSlice S256x128 ![0, o] y h

/-- One retention head turned. -/
def turnR (s cs sn : FVec Ideal S256x128 .f32) : FVec Ideal S256x128 .f32 :=
  addf (mulf s cs) (mulf (dynamicRotate 1 64#32 none s rotates_S256x128_d1) sn)

/-- Two sparse attention heads turned. -/
def turnN (s cs sn : FVec Ideal S256x128 .f32) : FVec Ideal S256x128 .f32 :=
  addf (mulf s cs) (mulf (select k0_pay13 (dynamicRotate 1 96#32 none s rotates_S256x128_d1) (dynamicRotate 1 32#32 none s rotates_S256x128_d1)) sn)

theorem turnR_at (s cs sn : FVec Ideal S256x128 .f32) (r : Fin 256) (l : Fin 128) :
    turnR s cs sn (ix2 r l) = mat s r l * mat cs r l + mat s r ⟨(l.val + 128 - 64) % 128, by omega⟩ * mat sn r l := by
  pointwise [turnR]

theorem turnN_at (s cs sn : FVec Ideal S256x128 .f32) (r : Fin 256) (l : Fin 128) :
    turnN s cs sn (ix2 r l) = mat s r l * mat cs r l
      + (if l.val % 64 < 32 then mat s r ⟨(l.val + 128 - 96) % 128, by omega⟩ else mat s r ⟨(l.val + 128 - 32) % 128, by omega⟩) * mat sn r l := by
  pointwise [turnN, k0_pay13]
  rw [low32, select_if]

theorem part_at (o : ℕ) (h : S256x512.Slices ![0, o] S256x128) (ho : o + 128 ≤ 512) (y : FVec Ideal S256x512 .f32) (r : Fin 256) (l : Fin 128) :
    part o h y (ix2 r l) = mat y r ⟨o + l.val, by omega⟩ := by
  pointwise [part]

/-- The part of the weight a chunk reads. -/
theorem ld_at (x5 : FVec Ideal S1024x8192 .bf16) (c : ℕ) (hc : c + 512 ≤ 8192) (h) (k : Fin 1024) (u : Fin 512) :
    (View.ld (Val := Elt Ideal) (e' := .bf16) x5 (Rect.unit (s := S1024x8192) ![0, c] S1024x512.size h)) (ix2 k u)
      = mat x5 k ⟨c + u.val, by omega⟩ := by
  pointwise
  blk_ext

variable (x0 : FVec Ideal S256x1024 .f32) (x1 : FVec Ideal S256x1 .f32) (x2 : FVec Ideal S1x1024 .f32) (x3 x4 : FVec Ideal S1x128 .f32)
  (x5 : FVec Ideal S1024x8192 .bf16)

/-- A chunk of the product: the normed rows times 512 columns of the weight, from column `c`. -/
abbrev chunk (c : ℕ) (h : ∀ a, (![0, c] : Fin 2 → ℕ) a + S1024x512.size a ≤ S1024x8192.size a) : FVec Ideal S256x512 .f32 :=
  k0_pay15 (F := Ideal) (k0_pay5 (F := Ideal) x0 x2)
    (View.ld (Val := Elt Ideal) (e' := .bf16) x5 (Rect.unit (s := S1024x8192) ![0, c] S1024x512.size h))

/-- Row `r` of the block, projected. -/
abbrev prow (r : Fin 256) : ℕ → EReal := proj (mat x0 r) (mat x2 0) (mat x5)

theorem chunk_at (c : ℕ) (h) (hc : c + 512 ≤ 8192) (r : Fin 256) (u : Fin 512) :
    chunk x0 x2 x5 c h (ix2 r u) = prow x0 x2 x5 r (c + u.val) := by
  refine (pay15_at _ _ r u).trans ?_
  unfold mul prow proj mul
  refine Finset.sum_congr rfl fun k _ => ?_
  refine congrArg₂ (fun a b : EReal => a * b) (pay5_at x0 x2 r k) ((ld_at x5 c hc h k u).trans ?_)
  exact congrArg (mat x5 k) (Fin.ext (Nat.mod_eq_of_lt (by omega)).symm)

theorem slot_at (c o : ℕ) (h) (hs) (hc : c + 512 ≤ 8192) (ho : o + 128 ≤ 512) (r : Fin 256) (l : Fin 128) :
    part o hs (chunk x0 x2 x5 c h) (ix2 r l) = prow x0 x2 x5 r (c + o + l.val) := by
  rw [part_at o hs ho, mat, chunk_at x0 x2 x5 c h hc, Nat.add_assoc]

/-- A retention head's block. -/
theorem headR (f : ℕ → EReal) (hf : ∀ l : Fin 128, mat x3 0 l = f (l.val % 64)) (c o n : ℕ) (h) (hs) (hc : c + 512 ≤ 8192) (ho : o + 128 ≤ 512)
    (hn : (c + o) % 128 = 0) (r : Fin 256) (l : Fin 128) (e : n = c + o + l.val) :
    turnR (part o hs (chunk x0 x2 x5 c h)) (k0_pay8 (F := Ideal) x1 x3) (k0_pay9 (F := Ideal) x1 x3) (ix2 r l)
      = turn 64 (prow x0 x2 x5 r) (fun i => mat x1 r 0 * f i) n := by
  subst e
  rw [turnR_at]
  simp only [mat]
  rw [slot_at x0 x2 x5 c o h hs hc ho, slot_at x0 x2 x5 c o h hs hc ho, pay8_at, pay9_at, hf]
  have a : (c + o + l.val) % 64 = l.val % 64 := by omega
  unfold turn
  by_cases g : l.val < 64
  · have b : c + o + (l.val + 128 - 64) % 128 = c + o + l.val + 64 := by omega
    rw [if_pos g, if_pos (by omega), a, mul_neg, ← sub_eq_add_neg]
    simp only [b]
  · have b : c + o + (l.val + 128 - 64) % 128 = c + o + l.val - 64 := by omega
    rw [if_neg g, if_neg (by omega), a]
    simp only [b]

/-- A pair of sparse attention heads' block. -/
theorem headN (f : ℕ → EReal) (hf : ∀ l : Fin 128, mat x4 0 l = f (l.val % 32)) (c o n : ℕ) (h) (hs) (hc : c + 512 ≤ 8192) (ho : o + 128 ≤ 512)
    (hn : (c + o) % 128 = 0) (r : Fin 256) (l : Fin 128) (e : n = c + o + l.val) :
    turnN (part o hs (chunk x0 x2 x5 c h)) (k0_pay11 (F := Ideal) x1 x4)
        (k0_pay14 (F := Ideal) (k0_pay12 (F := Ideal) x1 x4) k0_pay13 (Scalar.ofBits .f32 0x00000000#32)) (ix2 r l)
      = turn 32 (prow x0 x2 x5 r) (fun i => mat x1 r 0 * f i) n := by
  subst e
  rw [turnN_at]
  simp only [mat]
  rw [slot_at x0 x2 x5 c o h hs hc ho, slot_at x0 x2 x5 c o h hs hc ho, slot_at x0 x2 x5 c o h hs hc ho, pay11_at, pay14_at, hf]
  have a : (c + o + l.val) % 32 = l.val % 32 := by omega
  unfold turn
  by_cases g : l.val % 64 < 32
  · have b : c + o + (l.val + 128 - 96) % 128 = c + o + l.val + 32 := by omega
    rw [if_pos g, if_pos g, if_pos (by omega), a, mul_neg, ← sub_eq_add_neg]
    simp only [b]
  · have b : c + o + (l.val + 128 - 32) % 128 = c + o + l.val - 32 := by omega
    rw [if_neg g, if_neg g, if_neg (by omega), a]
    simp only [b]

/-! The seven blocks of one grid point. -/

/-- A stored block of 128 columns, from column `b`, is its part of the whole block. -/
theorem at_piece {n : ℕ} (P : S256x128.Idx → EReal) (f : Fin 256 → ℕ → EReal) (b : ℕ) (h)
    (hP : ∀ (r : Fin 256) (l : Fin 128), P (ix2 r l) = f r (b + l.val)) (x : S256x128.Idx) :
    P x = f (((Rect.unit (s := ⟨2, ![256, n]⟩) ![0, b] S256x128.size h).emb x) 0) (((Rect.unit (s := ⟨2, ![256, n]⟩) ![0, b] S256x128.size h).emb x) 1).val := by
  obtain ⟨r, l, rfl⟩ := ex2 x
  rw [hP]
  refine congr (congrArg f (Fin.ext ?_)) ?_
  · exact ((Nat.zero_add _).trans (Nat.one_mul _)).symm
  · exact congrArg (b + ·) (Nat.one_mul _).symm

/-! What a point loads whole, and the shared values of it. -/

theorem whole0 : View.ld (Val := Elt Ideal) (e' := .f32) x0 r0_0 = x0 := View.ld_unit_lit (Val := Elt Ideal) (e := .f32) (S := S256x1024) (off := ![0, 0]) _ x0 (by decide)
theorem whole1 : View.ld (Val := Elt Ideal) (e' := .f32) x1 r0_2 = x1 := View.ld_unit_lit (Val := Elt Ideal) (e := .f32) (S := S256x1) (off := ![0, 0]) _ x1 (by decide)
theorem whole2 : View.ld (Val := Elt Ideal) (e' := .f32) x2 r0_1 = x2 := View.ld_unit_lit (Val := Elt Ideal) (e := .f32) (S := S1x1024) (off := ![0, 0]) _ x2 (by decide)
theorem whole3 : View.ld (Val := Elt Ideal) (e' := .f32) x3 r0_3 = x3 := View.ld_unit_lit (Val := Elt Ideal) (e := .f32) (S := S1x128) (off := ![0, 0]) _ x3 (by decide)

theorem p99 : k0_pay99 (F := Ideal) x0 x1 x2 x3 x4 x5 = k0_pay5 (F := Ideal) x0 x2 := by
  unfold k0_pay99
  rw [whole0, whole2]

theorem p100 : k0_pay100 (F := Ideal) x0 x1 x2 x3 x4 x5 = k0_pay8 (F := Ideal) x1 x3 := by
  unfold k0_pay100
  rw [whole1, whole3]

theorem p101 : k0_pay101 (F := Ideal) x0 x1 x2 x3 x4 x5 = k0_pay9 (F := Ideal) x1 x3 := by
  unfold k0_pay101
  rw [whole1, whole3]

theorem p102 : k0_pay102 (F := Ideal) x0 x1 x2 x3 x4 x5 = k0_pay11 (F := Ideal) x1 x4 := by
  unfold k0_pay102
  rw [whole1, whole3]

theorem p104 : k0_pay104 (F := Ideal) x0 x1 x2 x3 x4 x5
    = k0_pay14 (F := Ideal) (k0_pay12 (F := Ideal) x1 x4) k0_pay13 (Scalar.ofBits .f32 0x00000000#32) := by
  unfold k0_pay104 k0_pay103
  rw [whole1, whole3]

/-- Stores that are blocks of `G` and cover the buffer leave `G`. -/
theorem canon_pieces {S : Shape} {e : EltTy} (G : S.Idx → Elt Ideal e) (L : List (View.Piece (Elt Ideal) S e)) (h : View.PiecesOf G L)
    (y : S.Idx) (hc : ∃ p ∈ L, y ∈ p.1.set) : View.canon L y = G y := by
  have := View.canon_append_of_piecesOf G [] L h y hc
  rwa [List.append_nil] at this

/-- The blocks a point leaves, by row and column. -/
abbrev Brq (y : S256x1024.Idx) : EReal := rq (mat x0 (y 0)) (mat x2 0) (mat x5) (mat x1 (y 0) 0) (y 1).val
abbrev Brk (y : S256x1024.Idx) : EReal := rk (mat x0 (y 0)) (mat x2 0) (mat x5) (mat x1 (y 0) 0) (y 1).val
abbrev Brv (y : S256x2048.Idx) : EReal := rv (mat x0 (y 0)) (mat x2 0) (mat x5) (y 1).val
abbrev Brg (y : S256x2048.Idx) : EReal := rg (mat x0 (y 0)) (mat x2 0) (mat x5) (y 1).val
abbrev Bnq (y : S256x1024.Idx) : EReal := nq (mat x0 (y 0)) (mat x2 0) (mat x5) (mat x1 (y 0) 0) (y 1).val
abbrev Bkv (y : S256x768.Idx) : EReal := kv (mat x0 (y 0)) (mat x2 0) (mat x5) (mat x1 (y 0) 0) (y 1).val
abbrev Bgate (y : S256x256.Idx) : EReal := gate (mat x0 (y 0)) (mat x2 0) (mat x5) (y 1).val

/-- The named key scale is the inverse root of 128. -/
theorem named_scale : Named.named (F := Ideal) Cert.ProjIdeal.κ "inv_sqrt_dk" (φ := .f32) 0x3DB504F3#32 = (((Real.sqrt 128)⁻¹ : ℝ) : EReal) :=
  IdealRules.named_const.ideal_named_scalar _ _ _ _ rfl

section
variable (hf : ∀ l : Fin 128, mat x3 0 l = freqR (l.val % 64)) (hn : ∀ l : Fin 128, mat x4 0 l = freqN (l.val % 32))
  (c o b : ℕ) (h : ∀ a, (![0, c] : Fin 2 → ℕ) a + S1024x512.size a ≤ S1024x8192.size a) (hs : S256x512.Slices ![0, o] S256x128)
  (hc : c + 512 ≤ 8192) (ho : o + 128 ≤ 512) (hm : (c + o) % 128 = 0)

include hf hc ho hm in
theorem rq_piece (hb : b = c + o) (hr : _) (P : FVec Ideal S256x128 .bf16)
    (hP : P = truncf .bf16 (turnR (part o hs (chunk x0 x2 x5 c h)) (k0_pay8 (F := Ideal) x1 x3) (k0_pay9 (F := Ideal) x1 x3)) bitsLt_bf16_f32) (x : S256x128.Idx) :
    P x
      = Brq x0 x1 x2 x5 ((Rect.unit (s := S256x1024) ![0, b] S256x128.size hr).emb x) := by
  subst hP
  exact at_piece (n := 1024) _ (fun r j => rq (mat x0 r) (mat x2 0) (mat x5) (mat x1 r 0) j) b hr
    (fun r l => headR x0 x1 x2 x3 x5 freqR hf c o _ h hs hc ho hm r l (by omega)) x

include hf hc ho hm in
theorem rk_piece (hb : 1024 + b = c + o) (hr : _) (P : FVec Ideal S256x128 .bf16)
    (hP : P = truncf .bf16 (mulf (turnR (part o hs (chunk x0 x2 x5 c h)) (k0_pay8 (F := Ideal) x1 x3) (k0_pay9 (F := Ideal) x1 x3))
        (broadcast S256x128 (Named.named Cert.ProjIdeal.κ "inv_sqrt_dk" 0x3DB504F3#32))) bitsLt_bf16_f32) (x : S256x128.Idx) :
    P x
      = Brk x0 x1 x2 x5 ((Rect.unit (s := S256x1024) ![0, b] S256x128.size hr).emb x) := by
  subst hP
  exact at_piece (n := 1024) _ (fun r j => rk (mat x0 r) (mat x2 0) (mat x5) (mat x1 r 0) j) b hr
    (fun r l => congrArg₂ (fun a b : EReal => a * b) (headR x0 x1 x2 x3 x5 freqR hf c o _ h hs hc ho hm r l (by omega)) named_scale) x

include hn hc ho hm in
theorem nq_piece (hb : 6144 + b = c + o) (hr : _) (P : FVec Ideal S256x128 .bf16)
    (hP : P = truncf .bf16 (mulf (turnN (part o hs (chunk x0 x2 x5 c h)) (k0_pay11 (F := Ideal) x1 x4)
        (k0_pay14 (F := Ideal) (k0_pay12 (F := Ideal) x1 x4) k0_pay13 (Scalar.ofBits .f32 0x00000000#32)))
        (broadcast S256x128 (Scalar.ofBits .f32 0x3E000000#32))) bitsLt_bf16_f32) (x : S256x128.Idx) :
    P x
      = Bnq x0 x1 x2 x5 ((Rect.unit (s := S256x1024) ![0, b] S256x128.size hr).emb x) := by
  subst hP
  exact at_piece (n := 1024) _ (fun r j => nq (mat x0 r) (mat x2 0) (mat x5) (mat x1 r 0) j) b hr
    (fun r l => congrArg (· * Ideal.ofBits .f32 0x3E000000#32) (headN x0 x1 x2 x4 x5 freqN hn c o _ h hs hc ho hm r l (by omega))) x

include hn hc ho hm in
theorem key_piece (hb : 7168 + b = c + o) (he : b / 128 % 2 = 0) (hr : _) (P : FVec Ideal S256x128 .bf16)
    (hP : P = truncf .bf16 (turnN (part o hs (chunk x0 x2 x5 c h)) (k0_pay11 (F := Ideal) x1 x4)
        (k0_pay14 (F := Ideal) (k0_pay12 (F := Ideal) x1 x4) k0_pay13 (Scalar.ofBits .f32 0x00000000#32))) bitsLt_bf16_f32) (x : S256x128.Idx) :
    P x
      = Bkv x0 x1 x2 x5 ((Rect.unit (s := S256x768) ![0, b] S256x128.size hr).emb x) := by
  subst hP
  exact at_piece (n := 768) _ (fun r j => kv (mat x0 r) (mat x2 0) (mat x5) (mat x1 r 0) j) b hr
    (fun r l => (headN x0 x1 x2 x4 x5 freqN hn c o _ h hs hc ho hm r l (by omega)).trans (if_pos (by have := l.isLt; omega)).symm) x

include hc ho hm in
theorem value_piece (hb : 7168 + b = c + o) (he : b / 128 % 2 = 1) (hr : _) (P : FVec Ideal S256x128 .bf16)
    (hP : P = truncf .bf16 (part o hs (chunk x0 x2 x5 c h)) bitsLt_bf16_f32) (x : S256x128.Idx) :
    P x
      = Bkv x0 x1 x2 x5 ((Rect.unit (s := S256x768) ![0, b] S256x128.size hr).emb x) := by
  subst hP
  exact at_piece (n := 768) _ (fun r j => kv (mat x0 r) (mat x2 0) (mat x5) (mat x1 r 0) j) b hr
    (fun r l => (slot_at x0 x2 x5 c o h hs hc ho r l).trans ((congrArg (prow x0 x2 x5 r) (by omega)).trans (if_neg (by omega)).symm)) x

include hc ho in
theorem rv_piece (hb : 2048 + b = c + o) (hr : _) (P : FVec Ideal S256x128 .bf16)
    (hP : P = truncf .bf16 (part o hs (chunk x0 x2 x5 c h)) bitsLt_bf16_f32) (x : S256x128.Idx) :
    P x
      = Brv x0 x2 x5 ((Rect.unit (s := S256x2048) ![0, b] S256x128.size hr).emb x) := by
  subst hP
  exact at_piece (n := 2048) _ (fun r j => rv (mat x0 r) (mat x2 0) (mat x5) j) b hr
    (fun r l => (slot_at x0 x2 x5 c o h hs hc ho r l).trans (congrArg (prow x0 x2 x5 r) (by omega))) x

include hc ho in
theorem rg_piece (hb : 4096 + b = c + o) (hr : _) (P : FVec Ideal S256x128 .bf16)
    (hP : P = truncf .bf16 (part o hs (chunk x0 x2 x5 c h)) bitsLt_bf16_f32) (x : S256x128.Idx) :
    P x
      = Brg x0 x2 x5 ((Rect.unit (s := S256x2048) ![0, b] S256x128.size hr).emb x) := by
  subst hP
  exact at_piece (n := 2048) _ (fun r j => rg (mat x0 r) (mat x2 0) (mat x5) j) b hr
    (fun r l => (slot_at x0 x2 x5 c o h hs hc ho r l).trans (congrArg (prow x0 x2 x5 r) (by omega))) x

include hc ho in
theorem gate_piece (hb : 7936 + b = c + o) (hr : _) (P : FVec Ideal S256x128 .f32)
    (hP : P = logistic (part o hs (chunk x0 x2 x5 c h))) (x : S256x128.Idx) :
    P x
      = Bgate x0 x2 x5 ((Rect.unit (s := S256x256) ![0, b] S256x128.size hr).emb x) := by
  subst hP
  exact at_piece (n := 256) _ (fun r j => gate (mat x0 r) (mat x2 0) (mat x5) j) b hr
    (fun r l => congrArg Ideal.logistic ((slot_at x0 x2 x5 c o h hs hc ho r l).trans (congrArg (prow x0 x2 x5 r) (by omega)))) x

end

theorem out0_6_at (hf : ∀ l : Fin 128, mat x3 0 l = freqR (l.val % 64)) (y : S256x1024.Idx) : out0_6 (F := Ideal) x0 x1 x2 x3 x4 x5 y = Brq x0 x1 x2 x5 y := by
  unfold out0_6 k0_pay105
  simp only [p99, p100, p101, p102, p104]
  refine canon_pieces (Brq x0 x1 x2 x5) _ ?_ y (cover0_6 _ _ _ _ _ _ _ _ y)
  exact ⟨rq_piece x0 x1 x2 x3 x5 hf 512 384 _ inb_S1024x8192_S1024x512_0_512 slices_S256x512_o0_384_S256x128 (by omega) (by omega) (by omega) (by omega) (by decide) _ rfl,
      rq_piece x0 x1 x2 x3 x5 hf 512 256 _ inb_S1024x8192_S1024x512_0_512 slices_S256x512_o0_256_S256x128 (by omega) (by omega) (by omega) (by omega) (by decide) _ rfl,
      rq_piece x0 x1 x2 x3 x5 hf 512 128 _ inb_S1024x8192_S1024x512_0_512 slices_S256x512_o0_128_S256x128 (by omega) (by omega) (by omega) (by omega) (by decide) _ rfl,
      rq_piece x0 x1 x2 x3 x5 hf 512 0 _ inb_S1024x8192_S1024x512_0_512 slices_S256x512_o0_0_S256x128 (by omega) (by omega) (by omega) (by omega) (by decide) _ rfl,
      rq_piece x0 x1 x2 x3 x5 hf 0 384 _ inb_S1024x8192_S1024x512_0_0 slices_S256x512_o0_384_S256x128 (by omega) (by omega) (by omega) (by omega) (by decide) _ rfl,
      rq_piece x0 x1 x2 x3 x5 hf 0 256 _ inb_S1024x8192_S1024x512_0_0 slices_S256x512_o0_256_S256x128 (by omega) (by omega) (by omega) (by omega) (by decide) _ rfl,
      rq_piece x0 x1 x2 x3 x5 hf 0 128 _ inb_S1024x8192_S1024x512_0_0 slices_S256x512_o0_128_S256x128 (by omega) (by omega) (by omega) (by omega) (by decide) _ rfl,
      rq_piece x0 x1 x2 x3 x5 hf 0 0 _ inb_S1024x8192_S1024x512_0_0 slices_S256x512_o0_0_S256x128 (by omega) (by omega) (by omega) (by omega) (by decide) _ rfl, trivial⟩

theorem out0_7_at (hf : ∀ l : Fin 128, mat x3 0 l = freqR (l.val % 64)) (y : S256x1024.Idx) : out0_7 (F := Ideal) x0 x1 x2 x3 x4 x5 y = Brk x0 x1 x2 x5 y := by
  unfold out0_7 k0_pay106 k0_pay107
  simp only [p99, p100, p101, p102, p104]
  refine canon_pieces (Brk x0 x1 x2 x5) _ ?_ y (cover0_7 _ _ _ _ _ _ _ _ y)
  exact ⟨rk_piece x0 x1 x2 x3 x5 hf 1536 384 _ inb_S1024x8192_S1024x512_0_1536 slices_S256x512_o0_384_S256x128 (by omega) (by omega) (by omega) (by omega) (by decide) _ rfl,
      rk_piece x0 x1 x2 x3 x5 hf 1536 256 _ inb_S1024x8192_S1024x512_0_1536 slices_S256x512_o0_256_S256x128 (by omega) (by omega) (by omega) (by omega) (by decide) _ rfl,
      rk_piece x0 x1 x2 x3 x5 hf 1536 128 _ inb_S1024x8192_S1024x512_0_1536 slices_S256x512_o0_128_S256x128 (by omega) (by omega) (by omega) (by omega) (by decide) _ rfl,
      rk_piece x0 x1 x2 x3 x5 hf 1536 0 _ inb_S1024x8192_S1024x512_0_1536 slices_S256x512_o0_0_S256x128 (by omega) (by omega) (by omega) (by omega) (by decide) _ rfl,
      rk_piece x0 x1 x2 x3 x5 hf 1024 384 _ inb_S1024x8192_S1024x512_0_1024 slices_S256x512_o0_384_S256x128 (by omega) (by omega) (by omega) (by omega) (by decide) _ rfl,
      rk_piece x0 x1 x2 x3 x5 hf 1024 256 _ inb_S1024x8192_S1024x512_0_1024 slices_S256x512_o0_256_S256x128 (by omega) (by omega) (by omega) (by omega) (by decide) _ rfl,
      rk_piece x0 x1 x2 x3 x5 hf 1024 128 _ inb_S1024x8192_S1024x512_0_1024 slices_S256x512_o0_128_S256x128 (by omega) (by omega) (by omega) (by omega) (by decide) _ rfl,
      rk_piece x0 x1 x2 x3 x5 hf 1024 0 _ inb_S1024x8192_S1024x512_0_1024 slices_S256x512_o0_0_S256x128 (by omega) (by omega) (by omega) (by omega) (by decide) _ rfl, trivial⟩

theorem out0_8_at (y : S256x2048.Idx) : out0_8 (F := Ideal) x0 x1 x2 x3 x4 x5 y = Brv x0 x2 x5 y := by
  unfold out0_8 k0_pay108
  simp only [p99, p100, p101, p102, p104]
  refine canon_pieces (Brv x0 x2 x5) _ ?_ y (cover0_8 _ _ _ _ _ _ _ _ _ _ _ _ _ _ _ _ y)
  exact ⟨rv_piece x0 x2 x5 3584 384 _ inb_S1024x8192_S1024x512_0_3584 slices_S256x512_o0_384_S256x128 (by omega) (by omega) (by omega) (by decide) _ rfl,
      rv_piece x0 x2 x5 3584 256 _ inb_S1024x8192_S1024x512_0_3584 slices_S256x512_o0_256_S256x128 (by omega) (by omega) (by omega) (by decide) _ rfl,
      rv_piece x0 x2 x5 3584 128 _ inb_S1024x8192_S1024x512_0_3584 slices_S256x512_o0_128_S256x128 (by omega) (by omega) (by omega) (by decide) _ rfl,
      rv_piece x0 x2 x5 3584 0 _ inb_S1024x8192_S1024x512_0_3584 slices_S256x512_o0_0_S256x128 (by omega) (by omega) (by omega) (by decide) _ rfl,
      rv_piece x0 x2 x5 3072 384 _ inb_S1024x8192_S1024x512_0_3072 slices_S256x512_o0_384_S256x128 (by omega) (by omega) (by omega) (by decide) _ rfl,
      rv_piece x0 x2 x5 3072 256 _ inb_S1024x8192_S1024x512_0_3072 slices_S256x512_o0_256_S256x128 (by omega) (by omega) (by omega) (by decide) _ rfl,
      rv_piece x0 x2 x5 3072 128 _ inb_S1024x8192_S1024x512_0_3072 slices_S256x512_o0_128_S256x128 (by omega) (by omega) (by omega) (by decide) _ rfl,
      rv_piece x0 x2 x5 3072 0 _ inb_S1024x8192_S1024x512_0_3072 slices_S256x512_o0_0_S256x128 (by omega) (by omega) (by omega) (by decide) _ rfl,
      rv_piece x0 x2 x5 2560 384 _ inb_S1024x8192_S1024x512_0_2560 slices_S256x512_o0_384_S256x128 (by omega) (by omega) (by omega) (by decide) _ rfl,
      rv_piece x0 x2 x5 2560 256 _ inb_S1024x8192_S1024x512_0_2560 slices_S256x512_o0_256_S256x128 (by omega) (by omega) (by omega) (by decide) _ rfl,
      rv_piece x0 x2 x5 2560 128 _ inb_S1024x8192_S1024x512_0_2560 slices_S256x512_o0_128_S256x128 (by omega) (by omega) (by omega) (by decide) _ rfl,
      rv_piece x0 x2 x5 2560 0 _ inb_S1024x8192_S1024x512_0_2560 slices_S256x512_o0_0_S256x128 (by omega) (by omega) (by omega) (by decide) _ rfl,
      rv_piece x0 x2 x5 2048 384 _ inb_S1024x8192_S1024x512_0_2048 slices_S256x512_o0_384_S256x128 (by omega) (by omega) (by omega) (by decide) _ rfl,
      rv_piece x0 x2 x5 2048 256 _ inb_S1024x8192_S1024x512_0_2048 slices_S256x512_o0_256_S256x128 (by omega) (by omega) (by omega) (by decide) _ rfl,
      rv_piece x0 x2 x5 2048 128 _ inb_S1024x8192_S1024x512_0_2048 slices_S256x512_o0_128_S256x128 (by omega) (by omega) (by omega) (by decide) _ rfl,
      rv_piece x0 x2 x5 2048 0 _ inb_S1024x8192_S1024x512_0_2048 slices_S256x512_o0_0_S256x128 (by omega) (by omega) (by omega) (by decide) _ rfl, trivial⟩

theorem out0_9_at (y : S256x2048.Idx) : out0_9 (F := Ideal) x0 x1 x2 x3 x4 x5 y = Brg x0 x2 x5 y := by
  unfold out0_9
  simp only [p99, p100, p101, p102, p104]
  refine canon_pieces (Brg x0 x2 x5) _ ?_ y (cover0_9 _ _ _ _ _ _ _ _ _ _ _ _ _ _ _ _ y)
  exact ⟨rg_piece x0 x2 x5 5632 384 _ inb_S1024x8192_S1024x512_0_5632 slices_S256x512_o0_384_S256x128 (by omega) (by omega) (by omega) (by decide) _ rfl,
      rg_piece x0 x2 x5 5632 256 _ inb_S1024x8192_S1024x512_0_5632 slices_S256x512_o0_256_S256x128 (by omega) (by omega) (by omega) (by decide) _ rfl,
      rg_piece x0 x2 x5 5632 128 _ inb_S1024x8192_S1024x512_0_5632 slices_S256x512_o0_128_S256x128 (by omega) (by omega) (by omega) (by decide) _ rfl,
      rg_piece x0 x2 x5 5632 0 _ inb_S1024x8192_S1024x512_0_5632 slices_S256x512_o0_0_S256x128 (by omega) (by omega) (by omega) (by decide) _ rfl,
      rg_piece x0 x2 x5 5120 384 _ inb_S1024x8192_S1024x512_0_5120 slices_S256x512_o0_384_S256x128 (by omega) (by omega) (by omega) (by decide) _ rfl,
      rg_piece x0 x2 x5 5120 256 _ inb_S1024x8192_S1024x512_0_5120 slices_S256x512_o0_256_S256x128 (by omega) (by omega) (by omega) (by decide) _ rfl,
      rg_piece x0 x2 x5 5120 128 _ inb_S1024x8192_S1024x512_0_5120 slices_S256x512_o0_128_S256x128 (by omega) (by omega) (by omega) (by decide) _ rfl,
      rg_piece x0 x2 x5 5120 0 _ inb_S1024x8192_S1024x512_0_5120 slices_S256x512_o0_0_S256x128 (by omega) (by omega) (by omega) (by decide) _ rfl,
      rg_piece x0 x2 x5 4608 384 _ inb_S1024x8192_S1024x512_0_4608 slices_S256x512_o0_384_S256x128 (by omega) (by omega) (by omega) (by decide) _ rfl,
      rg_piece x0 x2 x5 4608 256 _ inb_S1024x8192_S1024x512_0_4608 slices_S256x512_o0_256_S256x128 (by omega) (by omega) (by omega) (by decide) _ rfl,
      rg_piece x0 x2 x5 4608 128 _ inb_S1024x8192_S1024x512_0_4608 slices_S256x512_o0_128_S256x128 (by omega) (by omega) (by omega) (by decide) _ rfl,
      rg_piece x0 x2 x5 4608 0 _ inb_S1024x8192_S1024x512_0_4608 slices_S256x512_o0_0_S256x128 (by omega) (by omega) (by omega) (by decide) _ rfl,
      rg_piece x0 x2 x5 4096 384 _ inb_S1024x8192_S1024x512_0_4096 slices_S256x512_o0_384_S256x128 (by omega) (by omega) (by omega) (by decide) _ rfl,
      rg_piece x0 x2 x5 4096 256 _ inb_S1024x8192_S1024x512_0_4096 slices_S256x512_o0_256_S256x128 (by omega) (by omega) (by omega) (by decide) _ rfl,
      rg_piece x0 x2 x5 4096 128 _ inb_S1024x8192_S1024x512_0_4096 slices_S256x512_o0_128_S256x128 (by omega) (by omega) (by omega) (by decide) _ rfl,
      rg_piece x0 x2 x5 4096 0 _ inb_S1024x8192_S1024x512_0_4096 slices_S256x512_o0_0_S256x128 (by omega) (by omega) (by omega) (by decide) _ rfl, trivial⟩

theorem out0_10_at (hn : ∀ l : Fin 128, mat x4 0 l = freqN (l.val % 32)) (y : S256x1024.Idx) : out0_10 (F := Ideal) x0 x1 x2 x3 x4 x5 y = Bnq x0 x1 x2 x5 y := by
  unfold out0_10 k0_pay103 k0_pay109 k0_pay110
  simp only [p99, p100, p101, p102, p104]
  refine canon_pieces (Bnq x0 x1 x2 x5) _ ?_ y (cover0_10 _ _ _ _ _ _ _ _ y)
  exact ⟨nq_piece x0 x1 x2 x4 x5 hn 6656 384 _ inb_S1024x8192_S1024x512_0_6656 slices_S256x512_o0_384_S256x128 (by omega) (by omega) (by omega) (by omega) (by decide) _ rfl,
      nq_piece x0 x1 x2 x4 x5 hn 6656 256 _ inb_S1024x8192_S1024x512_0_6656 slices_S256x512_o0_256_S256x128 (by omega) (by omega) (by omega) (by omega) (by decide) _ rfl,
      nq_piece x0 x1 x2 x4 x5 hn 6656 128 _ inb_S1024x8192_S1024x512_0_6656 slices_S256x512_o0_128_S256x128 (by omega) (by omega) (by omega) (by omega) (by decide) _ rfl,
      nq_piece x0 x1 x2 x4 x5 hn 6656 0 _ inb_S1024x8192_S1024x512_0_6656 slices_S256x512_o0_0_S256x128 (by omega) (by omega) (by omega) (by omega) (by decide) _ rfl,
      nq_piece x0 x1 x2 x4 x5 hn 6144 384 _ inb_S1024x8192_S1024x512_0_6144 slices_S256x512_o0_384_S256x128 (by omega) (by omega) (by omega) (by omega) (by decide) _ rfl,
      nq_piece x0 x1 x2 x4 x5 hn 6144 256 _ inb_S1024x8192_S1024x512_0_6144 slices_S256x512_o0_256_S256x128 (by omega) (by omega) (by omega) (by omega) (by decide) _ rfl,
      nq_piece x0 x1 x2 x4 x5 hn 6144 128 _ inb_S1024x8192_S1024x512_0_6144 slices_S256x512_o0_128_S256x128 (by omega) (by omega) (by omega) (by omega) (by decide) _ rfl,
      nq_piece x0 x1 x2 x4 x5 hn 6144 0 _ inb_S1024x8192_S1024x512_0_6144 slices_S256x512_o0_0_S256x128 (by omega) (by omega) (by omega) (by omega) (by decide) _ rfl, trivial⟩

theorem out0_11_at (hn : ∀ l : Fin 128, mat x4 0 l = freqN (l.val % 32)) (y : S256x768.Idx) : out0_11 (F := Ideal) x0 x1 x2 x3 x4 x5 y = Bkv x0 x1 x2 x5 y := by
  unfold out0_11 k0_pay103 k0_pay111
  simp only [p99, p100, p101, p102, p104]
  refine canon_pieces (Bkv x0 x1 x2 x5) _ ?_ y (cover0_11 _ _ _ _ _ _ y)
  exact ⟨value_piece x0 x1 x2 x5 7680 128 _ inb_S1024x8192_S1024x512_0_7680 slices_S256x512_o0_128_S256x128 (by omega) (by omega) (by omega) (by omega) (by omega) (by decide) _ rfl,
      key_piece x0 x1 x2 x4 x5 hn 7680 0 _ inb_S1024x8192_S1024x512_0_7680 slices_S256x512_o0_0_S256x128 (by omega) (by omega) (by omega) (by omega) (by omega) (by decide) _ rfl,
      value_piece x0 x1 x2 x5 7168 384 _ inb_S1024x8192_S1024x512_0_7168 slices_S256x512_o0_384_S256x128 (by omega) (by omega) (by omega) (by omega) (by omega) (by decide) _ rfl,
      key_piece x0 x1 x2 x4 x5 hn 7168 256 _ inb_S1024x8192_S1024x512_0_7168 slices_S256x512_o0_256_S256x128 (by omega) (by omega) (by omega) (by omega) (by omega) (by decide) _ rfl,
      value_piece x0 x1 x2 x5 7168 128 _ inb_S1024x8192_S1024x512_0_7168 slices_S256x512_o0_128_S256x128 (by omega) (by omega) (by omega) (by omega) (by omega) (by decide) _ rfl,
      key_piece x0 x1 x2 x4 x5 hn 7168 0 _ inb_S1024x8192_S1024x512_0_7168 slices_S256x512_o0_0_S256x128 (by omega) (by omega) (by omega) (by omega) (by omega) (by decide) _ rfl, trivial⟩

theorem out0_12_at (y : S256x256.Idx) : out0_12 (F := Ideal) x0 x1 x2 x3 x4 x5 y = Bgate x0 x2 x5 y := by
  unfold out0_12 k0_pay111
  simp only [p99, p100, p101, p102, p104]
  refine canon_pieces (Bgate x0 x2 x5) _ ?_ y (cover0_12 _ _ y)
  exact ⟨gate_piece x0 x2 x5 7680 384 _ inb_S1024x8192_S1024x512_0_7680 slices_S256x512_o0_384_S256x128 (by omega) (by omega) (by omega) (by decide) _ rfl,
      gate_piece x0 x2 x5 7680 256 _ inb_S1024x8192_S1024x512_0_7680 slices_S256x512_o0_256_S256x128 (by omega) (by omega) (by omega) (by decide) _ rfl, trivial⟩

/-! From the blocks to the arrays. -/

section
variable (m : (ℓ : Loc nD τ sig) → Buf (Elt Ideal) ℓ)

/-- The arguments, by row and lane. -/
abbrev a0 (c : Dev nD) : Fin 65536 → Fin 1024 → EReal := fun r l => m ((c : Thread nD τ).loc main_arg0) (ix2 r l)
abbrev a2 (c : Dev nD) : Fin 1 → Fin 1024 → EReal := fun r l => m ((c : Thread nD τ).loc main_arg2) (ix2 r l)
abbrev a3 (c : Dev nD) : Fin 1024 → Fin 8192 → EReal := fun r l => m ((c : Thread nD τ).loc main_arg3) (ix2 r l)

/-- A row's position. -/
abbrev pos (c : Dev nD) (R : Fin 65536) : EReal := FloatOps.sitofp (F := Ideal) .f32 (m ((c : Thread nD τ).loc main_arg1) (ix2 R 0))

/-- The windows' block indices. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] := by
  decide +kernel

theorem lt256 (t : Fin cfg0.N) : t.val < 256 := lt_of_lt_of_eq t.isLt (show cfg0.N = 256 from N_0)

/-- Row `r` of a point's 256 rows. -/
abbrev at0 (t : Fin cfg0.N) (r : Fin 256) : Fin 65536 := ⟨t.val * 256 + r.val, by have := lt256 t; omega⟩

theorem blk0 (c : Dev nD) (t : Fin cfg0.N) (r : Fin 256) : mat (n := 256) (k := 1024) (e := .f32) (iblk m c 0 t) r = a0 m c (at0 t r) := by
  funext l
  show iblk m c 0 t (ix2 r l) = m ((c : Thread nD τ).loc main_arg0) (ix2 (at0 t r) l)
  rw [← V_main_arg0 m c]
  have := lt256 t
  blk_ext [iblk, idx t]

theorem blk2 (c : Dev nD) (t : Fin cfg0.N) (r : Fin 1) : mat (n := 1) (k := 1024) (e := .f32) (iblk m c 2 t) r = a2 m c r := by
  funext l
  show iblk m c 2 t (ix2 r l) = m ((c : Thread nD τ).loc main_arg2) (ix2 r l)
  rw [← V_main_arg2 m c]
  blk_ext [iblk, idx t]

theorem blk5 (c : Dev nD) (t : Fin cfg0.N) : mat (n := 1024) (k := 8192) (e := .bf16) (iblk m c 5 t) = a3 m c := by
  funext r l
  show iblk m c 5 t (ix2 r l) = m ((c : Thread nD τ).loc main_arg3) (ix2 r l)
  rw [← V_main_arg3 m c]
  blk_ext [iblk, idx t]

theorem blk1 (c : Dev nD) (t : Fin cfg0.N) (r : Fin 256) : mat (n := 256) (k := 1) (e := .f32) (iblk m c 1 t) r 0 = pos m c (at0 t r) := by
  show iblk m c 1 t (ix2 r 0) = pos m c (at0 t r)
  have := lt256 t
  have e : ((View.whole main_v0).slice (win0_1.rect t)).emb (ix2 r 0) = ix2 (at0 t r) 0 := by blk_ext [idx t]
  blk_simp [iblk, idx t]
  rw [e]
  entry_read
  pointwise

theorem blk3 (c : Dev nD) (t : Fin cfg0.N) (l : Fin 128) : mat (n := 1) (k := 128) (e := .f32) (iblk m c 3 t) 0 l = freqR (l.val % 64) := by
  show iblk m c 3 t (ix2 0 l) = freqR (l.val % 64)
  have e : ((View.whole main_v24).slice (win0_3.rect t)).emb (ix2 0 l) = ix2 0 l := by blk_ext [idx t]
  blk_simp [iblk, idx t]
  rw [e]
  entry_read
  pointwise [freq]

theorem blk4 (c : Dev nD) (t : Fin cfg0.N) (l : Fin 128) : mat (n := 1) (k := 128) (e := .f32) (iblk m c 4 t) 0 l = freqN (l.val % 32) := by
  show iblk m c 4 t (ix2 0 l) = freqN (l.val % 32)
  have e : ((View.whole main_v28).slice (win0_4.rect t)).emb (ix2 0 l) = ix2 0 l := by blk_ext [idx t]
  blk_simp [iblk, idx t]
  rw [e]
  entry_read
  pointwise [freq]

/-- An array of rows, each a function of its row, the gain and the weight, and of its position. -/
def rows {n : ℕ} (f : (Fin 1024 → EReal) → (Fin 1024 → EReal) → (Fin 1024 → Fin 8192 → EReal) → ℕ → EReal) (c : Dev nD)
    (i : (⟨2, ![65536, n]⟩ : Shape).Idx) : EReal :=
  f (a0 m c (i 0)) (a2 m c 0) (a3 m c) (i 1).val

def rowsP {n : ℕ} (f : (Fin 1024 → EReal) → (Fin 1024 → EReal) → (Fin 1024 → Fin 8192 → EReal) → EReal → ℕ → EReal) (c : Dev nD)
    (i : (⟨2, ![65536, n]⟩ : Shape).Idx) : EReal :=
  f (a0 m c (i 0)) (a2 m c 0) (a3 m c) (pos m c (i 0)) (i 1).val

/-- A function of a block's row, its position, the gain and the weight is that of the arrays' row. -/
theorem congr_row (f : (Fin 1024 → EReal) → (Fin 1024 → EReal) → (Fin 1024 → Fin 8192 → EReal) → ℕ → EReal) (c : Dev nD) (t : Fin cfg0.N)
    (r : Fin 256) (j : ℕ) :
    f (mat (n := 256) (k := 1024) (e := .f32) (iblk m c 0 t) r) (mat (n := 1) (k := 1024) (e := .f32) (iblk m c 2 t) 0)
        (mat (n := 1024) (k := 8192) (e := .bf16) (iblk m c 5 t)) j
      = f (a0 m c (at0 t r)) (a2 m c 0) (a3 m c) j := by
  rw [blk0 m c t r, blk2 m c t 0, blk5 m c t]

theorem congr_rowP (f : (Fin 1024 → EReal) → (Fin 1024 → EReal) → (Fin 1024 → Fin 8192 → EReal) → EReal → ℕ → EReal) (c : Dev nD)
    (t : Fin cfg0.N) (r : Fin 256) (j : ℕ) :
    f (mat (n := 256) (k := 1024) (e := .f32) (iblk m c 0 t) r) (mat (n := 1) (k := 1024) (e := .f32) (iblk m c 2 t) 0)
        (mat (n := 1024) (k := 8192) (e := .bf16) (iblk m c 5 t)) (mat (n := 256) (k := 1) (e := .f32) (iblk m c 1 t) r 0) j
      = f (a0 m c (at0 t r)) (a2 m c 0) (a3 m c) (pos m c (at0 t r)) j := by
  rw [blk0 m c t r, blk1 m c t r, blk2 m c t 0, blk5 m c t]

theorem final6 (c : Dev nD) : (dats m 0 c).arrAt 6 cfg0.N = rowsP m rq c := by
  refine (dats m 0 c).arrAt_eq_of_covers 6 _ (by decide +kernel) fun t _ y => ?_
  blk_simp
  rw [after0_6]
  have e : (win0_6.blk t).view.emb y = ix2 (at0 t (y 0)) (y 1) := by
    have := lt256 t
    blk_ext [idx t]
  rw [e]
  refine (out0_6_at (iblk m c 0 t) (iblk m c 1 t) (iblk m c 2 t) (iblk m c 3 t) (iblk m c 4 t) (iblk m c 5 t) (blk3 m c t) y).trans ?_
  exact congr_rowP m rq c t (y 0) (y 1).val

theorem final7 (c : Dev nD) : (dats m 0 c).arrAt 7 cfg0.N = rowsP m rk c := by
  refine (dats m 0 c).arrAt_eq_of_covers 7 _ (by decide +kernel) fun t _ y => ?_
  blk_simp
  rw [after0_7]
  have e : (win0_7.blk t).view.emb y = ix2 (at0 t (y 0)) (y 1) := by
    have := lt256 t
    blk_ext [idx t]
  rw [e]
  refine (out0_7_at (iblk m c 0 t) (iblk m c 1 t) (iblk m c 2 t) (iblk m c 3 t) (iblk m c 4 t) (iblk m c 5 t) (blk3 m c t) y).trans ?_
  exact congr_rowP m rk c t (y 0) (y 1).val

theorem final8 (c : Dev nD) : (dats m 0 c).arrAt 8 cfg0.N = rows m rv c := by
  refine (dats m 0 c).arrAt_eq_of_covers 8 _ (by decide +kernel) fun t _ y => ?_
  blk_simp
  rw [after0_8]
  have e : (win0_8.blk t).view.emb y = ix2 (at0 t (y 0)) (y 1) := by
    have := lt256 t
    blk_ext [idx t]
  rw [e]
  refine (out0_8_at (iblk m c 0 t) (iblk m c 1 t) (iblk m c 2 t) (iblk m c 3 t) (iblk m c 4 t) (iblk m c 5 t) y).trans ?_
  exact congr_row m rv c t (y 0) (y 1).val

theorem final9 (c : Dev nD) : (dats m 0 c).arrAt 9 cfg0.N = rows m rg c := by
  refine (dats m 0 c).arrAt_eq_of_covers 9 _ (by decide +kernel) fun t _ y => ?_
  blk_simp
  rw [after0_9]
  have e : (win0_9.blk t).view.emb y = ix2 (at0 t (y 0)) (y 1) := by
    have := lt256 t
    blk_ext [idx t]
  rw [e]
  refine (out0_9_at (iblk m c 0 t) (iblk m c 1 t) (iblk m c 2 t) (iblk m c 3 t) (iblk m c 4 t) (iblk m c 5 t) y).trans ?_
  exact congr_row m rg c t (y 0) (y 1).val

theorem final10 (c : Dev nD) : (dats m 0 c).arrAt 10 cfg0.N = rowsP m nq c := by
  refine (dats m 0 c).arrAt_eq_of_covers 10 _ (by decide +kernel) fun t _ y => ?_
  blk_simp
  rw [after0_10]
  have e : (win0_10.blk t).view.emb y = ix2 (at0 t (y 0)) (y 1) := by
    have := lt256 t
    blk_ext [idx t]
  rw [e]
  refine (out0_10_at (iblk m c 0 t) (iblk m c 1 t) (iblk m c 2 t) (iblk m c 3 t) (iblk m c 4 t) (iblk m c 5 t) (blk4 m c t) y).trans ?_
  exact congr_rowP m nq c t (y 0) (y 1).val

theorem final11 (c : Dev nD) : (dats m 0 c).arrAt 11 cfg0.N = rowsP m kv c := by
  refine (dats m 0 c).arrAt_eq_of_covers 11 _ (by decide +kernel) fun t _ y => ?_
  blk_simp
  rw [after0_11]
  have e : (win0_11.blk t).view.emb y = ix2 (at0 t (y 0)) (y 1) := by
    have := lt256 t
    blk_ext [idx t]
  rw [e]
  refine (out0_11_at (iblk m c 0 t) (iblk m c 1 t) (iblk m c 2 t) (iblk m c 3 t) (iblk m c 4 t) (iblk m c 5 t) (blk4 m c t) y).trans ?_
  exact congr_rowP m kv c t (y 0) (y 1).val

theorem final12 (c : Dev nD) : (dats m 0 c).arrAt 12 cfg0.N = rows m gate c := by
  refine (dats m 0 c).arrAt_eq_of_covers 12 _ (by decide +kernel) fun t _ y => ?_
  blk_simp
  rw [after0_12]
  have e : (win0_12.blk t).view.emb y = ix2 (at0 t (y 0)) (y 1) := by
    have := lt256 t
    blk_ext [idx t]
  rw [e]
  refine (out0_12_at (iblk m c 0 t) (iblk m c 1 t) (iblk m c 2 t) (iblk m c 3 t) (iblk m c 4 t) (iblk m c 5 t) y).trans ?_
  exact congr_row m gate c t (y 0) (y 1).val

end

end Cert.ProjIdeal.Value
-- ==== Proof.ProjRef.lean ====
/- What the projection's reference leaves: every row of its seven results is that row's projection, turned, scaled or gated. -/
module

public import proofs.«01_k».proof.Proof.ProjModel
public import proofs.«01_k».proof.Proof.Gen.ProjRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline Idealize.ShloMosaic.StableHlo

namespace Cert.ProjRefIdeal.Value

open Cert.ProjRefIdeal Cert.ProjRefIdeal.Gen Cert.TailModel Cert.ProjModel

variable (V : Valuation τ sig (Elt Ideal))

/-! The arguments, by row and lane. -/

abbrev aX (R : Fin 65536) (j : Fin 1024) : EReal := V (Proc.devRef .tc main_arg0) (ix2 R j)
abbrev aP (R : Fin 65536) : EReal := FloatOps.sitofp (F := Ideal) .f32 (V (Proc.devRef .tc main_arg1) (ix2 R 0))
abbrev aG (j : Fin 1024) : EReal := V (Proc.devRef .tc main_arg2) (ix2 0 j)
abbrev aW (i : Fin 1024) (j : Fin 8192) : EReal := V (Proc.devRef .tc main_arg3) (ix2 i j)

/-- Row `R` of the product, and the angles of its heads. -/
abbrev row (R : Fin 65536) : ℕ → EReal := proj (aX V R) (aG V) (aW V)

/-- The halves of a head, turned and put together, are the turn of its columns. -/
theorem halves64 (y a : ℕ → EReal) (b j : ℕ) (hb : b % 128 = 0) :
    (if j % 128 < 64 then
        y (b + (j / 128 * 128 + j % 128)) * Ideal.cos (a (j % 128)) - y (b + (j / 128 * 128 + (64 + j % 128))) * Ideal.sin (a (j % 128))
      else y (b + (j / 128 * 128 + (64 + (j % 128 - 64)))) * Ideal.cos (a (j % 128 - 64))
        + y (b + (j / 128 * 128 + (j % 128 - 64))) * Ideal.sin (a (j % 128 - 64))) = turn 64 y a (b + j) := by
  unfold turn
  by_cases g : j % 128 < 64
  · rw [if_pos g, if_pos (by omega), show b + (j / 128 * 128 + j % 128) = b + j by omega,
      show b + (j / 128 * 128 + (64 + j % 128)) = b + j + 64 by omega, show j % 128 = (b + j) % 64 by omega]
  · rw [if_neg g, if_neg (by omega), show b + (j / 128 * 128 + (64 + (j % 128 - 64))) = b + j by omega,
      show b + (j / 128 * 128 + (j % 128 - 64)) = b + j - 64 by omega, show j % 128 - 64 = (b + j) % 64 by omega]

theorem halves32 (y a : ℕ → EReal) (b j : ℕ) (hb : b % 64 = 0) :
    (if j % 64 < 32 then
        y (b + (j / 64 * 64 + j % 64)) * Ideal.cos (a (j % 64)) - y (b + (j / 64 * 64 + (32 + j % 64))) * Ideal.sin (a (j % 64))
      else y (b + (j / 64 * 64 + (32 + (j % 64 - 32)))) * Ideal.cos (a (j % 64 - 32))
        + y (b + (j / 64 * 64 + (j % 64 - 32))) * Ideal.sin (a (j % 64 - 32))) = turn 32 y a (b + j) := by
  unfold turn
  by_cases g : j % 64 < 32
  · rw [if_pos g, if_pos (by omega), show b + (j / 64 * 64 + j % 64) = b + j by omega,
      show b + (j / 64 * 64 + (32 + j % 64)) = b + j + 32 by omega, show j % 64 = (b + j) % 32 by omega]
  · rw [if_neg g, if_neg (by omega), show b + (j / 64 * 64 + (32 + (j % 64 - 32))) = b + j by omega,
      show b + (j / 64 * 64 + (j % 64 - 32)) = b + j - 32 by omega, show j % 64 - 32 = (b + j) % 32 by omega]

/-! The named arrays, by row, head and lane. -/

theorem v14_at (R : Fin 65536) (l : Fin 64) : (res_main_v14 V : FVec Ideal S65536x64 .f32) (ix2 R l) = aP V R * freqR l.val := by
  pointwise [res_main_v14, freq]

theorem v33_at (R : Fin 65536) (l : Fin 32) : (res_main_v33 V : FVec Ideal S65536x32 .f32) (ix2 R l) = aP V R * freqN l.val := by
  pointwise [res_main_v33, freq]

theorem v51_at (R : Fin 65536) (u : Fin 8192) : (res_main_v51 V : FVec Ideal S65536x8192 .f32) (ix2 R u) = row V R u.val := by
  have e : Fin.ofNat 8192 u.val = u := Fin.ext (Nat.mod_eq_of_lt u.isLt)
  unfold row proj
  rw [e]
  pointwise [res_main_v51]
  rfl

theorem v16_at (R : Fin 65536) (l : Fin 64) :
    (res_main_v16 V : FVec Ideal S65536x1x64 .f32) (ix3 R 0 l) = Ideal.cos (aP V R * freqR l.val) := by
  pointwise [res_main_v16]
  rw [v14_at]

theorem v18_at (R : Fin 65536) (l : Fin 64) :
    (res_main_v18 V : FVec Ideal S65536x1x64 .f32) (ix3 R 0 l) = Ideal.sin (aP V R * freqR l.val) := by
  pointwise [res_main_v18]
  rw [v14_at]

theorem v35_at (R : Fin 65536) (l : Fin 32) :
    (res_main_v35 V : FVec Ideal S65536x1x32 .f32) (ix3 R 0 l) = Ideal.cos (aP V R * freqN l.val) := by
  pointwise [res_main_v35]
  rw [v33_at]

theorem v37_at (R : Fin 65536) (l : Fin 32) :
    (res_main_v37 V : FVec Ideal S65536x1x32 .f32) (ix3 R 0 l) = Ideal.sin (aP V R * freqN l.val) := by
  pointwise [res_main_v37]
  rw [v33_at]

theorem v65_at (R : Fin 65536) (h : Fin 8) (l : Fin 64) :
    (res_main_v65 V : FVec Ideal S65536x8x64 .f32) (ix3 R h l) = row V R (0 + (h.val * 128 + l.val)) := by
  pointwise [res_main_v65, res_main_v64]
  rw [v51_at]

theorem v66_at (R : Fin 65536) (h : Fin 8) (l : Fin 64) :
    (res_main_v66 V : FVec Ideal S65536x8x64 .f32) (ix3 R h l) = row V R (0 + (h.val * 128 + (64 + l.val))) := by
  pointwise [res_main_v66, res_main_v64]
  rw [v51_at]

theorem v80_at (R : Fin 65536) (h : Fin 8) (l : Fin 64) :
    (res_main_v80 V : FVec Ideal S65536x8x64 .f32) (ix3 R h l) = row V R (1024 + (h.val * 128 + l.val)) := by
  pointwise [res_main_v80, res_main_v79]
  rw [v51_at]

theorem v81_at (R : Fin 65536) (h : Fin 8) (l : Fin 64) :
    (res_main_v81 V : FVec Ideal S65536x8x64 .f32) (ix3 R h l) = row V R (1024 + (h.val * 128 + (64 + l.val))) := by
  pointwise [res_main_v81, res_main_v79]
  rw [v51_at]

theorem v98_at (R : Fin 65536) (h : Fin 16) (l : Fin 32) :
    (res_main_v98 V : FVec Ideal S65536x16x32 .f32) (ix3 R h l) = row V R (6144 + (h.val * 64 + l.val)) := by
  pointwise [res_main_v98, res_main_v97]
  rw [v51_at]

theorem v99_at (R : Fin 65536) (h : Fin 16) (l : Fin 32) :
    (res_main_v99 V : FVec Ideal S65536x16x32 .f32) (ix3 R h l) = row V R (6144 + (h.val * 64 + (32 + l.val))) := by
  pointwise [res_main_v99, res_main_v97]
  rw [v51_at]

theorem v115_at (R : Fin 65536) (h : Fin 2) (l : Fin 32) :
    (res_main_v115 V : FVec Ideal S65536x2x32 .f32) (ix3 R h l) = row V R (7168 + (h.val * 64 + l.val)) := by
  pointwise [res_main_v115, res_main_v114]
  rw [v51_at]

theorem v116_at (R : Fin 65536) (h : Fin 2) (l : Fin 32) :
    (res_main_v116 V : FVec Ideal S65536x2x32 .f32) (ix3 R h l) = row V R (7168 + (h.val * 64 + (32 + l.val))) := by
  pointwise [res_main_v116, res_main_v114]
  rw [v51_at]

theorem v130_at (R : Fin 65536) (h : Fin 2) (l : Fin 32) :
    (res_main_v130 V : FVec Ideal S65536x2x32 .f32) (ix3 R h l) = row V R (7424 + (h.val * 64 + l.val)) := by
  pointwise [res_main_v130, res_main_v129]
  rw [v51_at]

theorem v131_at (R : Fin 65536) (h : Fin 2) (l : Fin 32) :
    (res_main_v131 V : FVec Ideal S65536x2x32 .f32) (ix3 R h l) = row V R (7424 + (h.val * 64 + (32 + l.val))) := by
  pointwise [res_main_v131, res_main_v129]
  rw [v51_at]

theorem v145_at (R : Fin 65536) (h : Fin 2) (l : Fin 32) :
    (res_main_v145 V : FVec Ideal S65536x2x32 .f32) (ix3 R h l) = row V R (7680 + (h.val * 64 + l.val)) := by
  pointwise [res_main_v145, res_main_v144]
  rw [v51_at]

theorem v146_at (R : Fin 65536) (h : Fin 2) (l : Fin 32) :
    (res_main_v146 V : FVec Ideal S65536x2x32 .f32) (ix3 R h l) = row V R (7680 + (h.val * 64 + (32 + l.val))) := by
  pointwise [res_main_v146, res_main_v144]
  rw [v51_at]

/-! The results, by row and column. -/

theorem rq_at (R : Fin 65536) (j : Fin 1024) :
    (truncf .bf16 (shapeCast _ (concatenate S65536x8x128 2 [⟨S65536x8x64, (subf (mulf (res_main_v65 V) (broadcastInDim S65536x8x64 ![0, 1, 2] bcast_S65536x1x64_S65536x8x64_0_1_2 (res_main_v16 V))) (mulf (res_main_v66 V) (broadcastInDim S65536x8x64 ![0, 1, 2] bcast_S65536x1x64_S65536x8x64_0_1_2 (res_main_v18 V))))⟩, ⟨S65536x8x64, (addf (mulf (res_main_v66 V) (broadcastInDim S65536x8x64 ![0, 1, 2] bcast_S65536x1x64_S65536x8x64_0_1_2 (res_main_v16 V))) (mulf (res_main_v65 V) (broadcastInDim S65536x8x64 ![0, 1, 2] bcast_S65536x1x64_S65536x8x64_0_1_2 (res_main_v18 V))))⟩] concatenates_S65536x8x64_S65536x8x64_S65536x8x128_d2) shapeCasts_S65536x8x128_S65536x1024) bitsLt_bf16_f32 : FVec Ideal S65536x1024 .bf16) (ix2 R j) = rq (aX V R) (aG V) (aW V) (aP V R) j.val := by
  pointwise
  simp only [v65_at, v66_at, v16_at, v18_at]
  exact (halves64 (row V R) (fun l => aP V R * freqR l) 0 j.val (by omega)).trans (by rw [Nat.zero_add]; rfl)

theorem rk_at (R : Fin 65536) (j : Fin 1024) :
    (truncf .bf16 (Host.divf (shapeCast _ (concatenate S65536x8x128 2 [⟨S65536x8x64, (subf (mulf (res_main_v80 V) (broadcastInDim S65536x8x64 ![0, 1, 2] bcast_S65536x1x64_S65536x8x64_0_1_2 (res_main_v16 V))) (mulf (res_main_v81 V) (broadcastInDim S65536x8x64 ![0, 1, 2] bcast_S65536x1x64_S65536x8x64_0_1_2 (res_main_v18 V))))⟩, ⟨S65536x8x64, (addf (mulf (res_main_v81 V) (broadcastInDim S65536x8x64 ![0, 1, 2] bcast_S65536x1x64_S65536x8x64_0_1_2 (res_main_v16 V))) (mulf (res_main_v80 V) (broadcastInDim S65536x8x64 ![0, 1, 2] bcast_S65536x1x64_S65536x8x64_0_1_2 (res_main_v18 V))))⟩] concatenates_S65536x8x64_S65536x8x64_S65536x8x128_d2) shapeCasts_S65536x8x128_S65536x1024) (broadcastInDim S65536x1024 ![] bcast_S_S65536x1024 (Host.sqrt (constant S_ .f32 0x43000000#32)))) bitsLt_bf16_f32 : FVec Ideal S65536x1024 .bf16) (ix2 R j) = rk (aX V R) (aG V) (aW V) (aP V R) j.val := by
  pointwise
  simp only [v80_at, v81_at, v16_at, v18_at]
  rw [root128, div_root128]
  exact congrArg (· * (((Real.sqrt 128)⁻¹ : ℝ) : EReal)) (halves64 (row V R) (fun l => aP V R * freqR l) 1024 j.val (by omega))

theorem rv_at (R : Fin 65536) (j : Fin 2048) :
    (truncf .bf16 (extractStridedSlice S65536x2048 ![0, 2048] (res_main_v51 V) slices_S65536x8192_S65536x2048_0_2048) bitsLt_bf16_f32 : FVec Ideal S65536x2048 .bf16) (ix2 R j) = rv (aX V R) (aG V) (aW V) j.val := by
  pointwise
  rw [v51_at]
  rfl

theorem rg_at (R : Fin 65536) (j : Fin 2048) :
    (truncf .bf16 (extractStridedSlice S65536x2048 ![0, 4096] (res_main_v51 V) slices_S65536x8192_S65536x2048_0_4096) bitsLt_bf16_f32 : FVec Ideal S65536x2048 .bf16) (ix2 R j) = rg (aX V R) (aG V) (aW V) j.val := by
  pointwise
  rw [v51_at]
  rfl

theorem nq_at (R : Fin 65536) (j : Fin 1024) :
    (truncf .bf16 (mulf (shapeCast _ (concatenate S65536x16x64 2 [⟨S65536x16x32, (subf (mulf (res_main_v98 V) (broadcastInDim S65536x16x32 ![0, 1, 2] bcast_S65536x1x32_S65536x16x32_0_1_2 (res_main_v35 V))) (mulf (res_main_v99 V) (broadcastInDim S65536x16x32 ![0, 1, 2] bcast_S65536x1x32_S65536x16x32_0_1_2 (res_main_v37 V))))⟩, ⟨S65536x16x32, (addf (mulf (res_main_v99 V) (broadcastInDim S65536x16x32 ![0, 1, 2] bcast_S65536x1x32_S65536x16x32_0_1_2 (res_main_v35 V))) (mulf (res_main_v98 V) (broadcastInDim S65536x16x32 ![0, 1, 2] bcast_S65536x1x32_S65536x16x32_0_1_2 (res_main_v37 V))))⟩] concatenates_S65536x16x32_S65536x16x32_S65536x16x64_d2) shapeCasts_S65536x16x64_S65536x1024) (broadcastInDim S65536x1024 ![] bcast_S_S65536x1024 (constant S_ .f32 0x3E000000#32))) bitsLt_bf16_f32 : FVec Ideal S65536x1024 .bf16) (ix2 R j) = nq (aX V R) (aG V) (aW V) (aP V R) j.val := by
  pointwise
  simp only [v98_at, v99_at, v35_at, v37_at]
  exact congrArg (· * Ideal.ofBits .f32 0x3E000000#32) (halves32 (row V R) (fun l => aP V R * freqN l) 6144 j.val (by omega))

/-- The keys' and the values' columns of the fifth result. -/
theorem kv_key (R : Fin 65536) (j n : ℕ) (hj : j / 128 % 2 = 0) (hn : n = 7168 + j) :
    turn 32 (row V R) (fun l => aP V R * freqN l) n = kv (aX V R) (aG V) (aW V) (aP V R) j := by
  subst hn
  exact (if_pos hj).symm

theorem kv_value (R : Fin 65536) (j : ℕ) (n : Fin 8192) (hj : j / 128 % 2 = 1) (hn : n.val = 7168 + j) :
    (res_main_v51 V : FVec Ideal S65536x8192 .f32) (ix2 R n) = kv (aX V R) (aG V) (aW V) (aP V R) j := by
  rw [v51_at, hn]
  exact (if_neg (by omega)).symm

theorem kv_at (R : Fin 65536) (j : Fin 768) :
    (truncf .bf16 ((concatenate S65536x768 1 [⟨S65536x128, ((shapeCast _ (concatenate S65536x2x64 2 [⟨S65536x2x32, (subf (mulf (res_main_v115 V) (broadcastInDim S65536x2x32 ![0, 1, 2] bcast_S65536x1x32_S65536x2x32_0_1_2 (res_main_v35 V))) (mulf (res_main_v116 V) (broadcastInDim S65536x2x32 ![0, 1, 2] bcast_S65536x1x32_S65536x2x32_0_1_2 (res_main_v37 V))))⟩, ⟨S65536x2x32, (addf (mulf (res_main_v116 V) (broadcastInDim S65536x2x32 ![0, 1, 2] bcast_S65536x1x32_S65536x2x32_0_1_2 (res_main_v35 V))) (mulf (res_main_v115 V) (broadcastInDim S65536x2x32 ![0, 1, 2] bcast_S65536x1x32_S65536x2x32_0_1_2 (res_main_v37 V))))⟩] concatenates_S65536x2x32_S65536x2x32_S65536x2x64_d2) shapeCasts_S65536x2x64_S65536x128) : (⟨S65536x128, .f32⟩ : BufTy).Contents (Elt Ideal))⟩, ⟨S65536x128, ((extractStridedSlice S65536x128 ![0, 7296] (res_main_v51 V) slices_S65536x8192_S65536x128_0_7296) : (⟨S65536x128, .f32⟩ : BufTy).Contents (Elt Ideal))⟩, ⟨S65536x128, ((shapeCast _ (concatenate S65536x2x64 2 [⟨S65536x2x32, (subf (mulf (res_main_v130 V) (broadcastInDim S65536x2x32 ![0, 1, 2] bcast_S65536x1x32_S65536x2x32_0_1_2 (res_main_v35 V))) (mulf (res_main_v131 V) (broadcastInDim S65536x2x32 ![0, 1, 2] bcast_S65536x1x32_S65536x2x32_0_1_2 (res_main_v37 V))))⟩, ⟨S65536x2x32, (addf (mulf (res_main_v131 V) (broadcastInDim S65536x2x32 ![0, 1, 2] bcast_S65536x1x32_S65536x2x32_0_1_2 (res_main_v35 V))) (mulf (res_main_v130 V) (broadcastInDim S65536x2x32 ![0, 1, 2] bcast_S65536x1x32_S65536x2x32_0_1_2 (res_main_v37 V))))⟩] concatenates_S65536x2x32_S65536x2x32_S65536x2x64_d2) shapeCasts_S65536x2x64_S65536x128) : (⟨S65536x128, .f32⟩ : BufTy).Contents (Elt Ideal))⟩, ⟨S65536x128, ((extractStridedSlice S65536x128 ![0, 7552] (res_main_v51 V) slices_S65536x8192_S65536x128_0_7552) : (⟨S65536x128, .f32⟩ : BufTy).Contents (Elt Ideal))⟩, ⟨S65536x128, ((shapeCast _ (concatenate S65536x2x64 2 [⟨S65536x2x32, (subf (mulf (res_main_v145 V) (broadcastInDim S65536x2x32 ![0, 1, 2] bcast_S65536x1x32_S65536x2x32_0_1_2 (res_main_v35 V))) (mulf (res_main_v146 V) (broadcastInDim S65536x2x32 ![0, 1, 2] bcast_S65536x1x32_S65536x2x32_0_1_2 (res_main_v37 V))))⟩, ⟨S65536x2x32, (addf (mulf (res_main_v146 V) (broadcastInDim S65536x2x32 ![0, 1, 2] bcast_S65536x1x32_S65536x2x32_0_1_2 (res_main_v35 V))) (mulf (res_main_v145 V) (broadcastInDim S65536x2x32 ![0, 1, 2] bcast_S65536x1x32_S65536x2x32_0_1_2 (res_main_v37 V))))⟩] concatenates_S65536x2x32_S65536x2x32_S65536x2x64_d2) shapeCasts_S65536x2x64_S65536x128) : (⟨S65536x128, .f32⟩ : BufTy).Contents (Elt Ideal))⟩, ⟨S65536x128, ((extractStridedSlice S65536x128 ![0, 7808] (res_main_v51 V) slices_S65536x8192_S65536x128_0_7808) : (⟨S65536x128, .f32⟩ : BufTy).Contents (Elt Ideal))⟩] concatenates_S65536x128_S65536x128_S65536x128_S65536x128_S65536x128_S65536x128_S65536x768_d1 : (⟨S65536x768, .f32⟩ : BufTy).Contents (Elt Ideal))) bitsLt_bf16_f32 : FVec Ideal S65536x768 .bf16) (ix2 R j) = kv (aX V R) (aG V) (aW V) (aP V R) j.val := by
  have hj := j.isLt
  pointwise
  simp only [v115_at, v116_at, v130_at, v131_at, v145_at, v146_at, v35_at, v37_at]
  by_cases h0 : j.val < 128
  · rw [dif_pos h0]
    exact (halves32 (row V R) (fun l => aP V R * freqN l) 7168 j.val (by omega)).trans (kv_key V R _ _ (by omega) (by omega))
  rw [dif_neg h0]
  by_cases h1 : j.val - 128 < 128
  · rw [dif_pos h1]
    exact kv_value V R _ _ (by omega) (by simp only; omega)
  rw [dif_neg h1]
  by_cases h2 : j.val - 128 - 128 < 128
  · rw [dif_pos h2]
    exact (halves32 (row V R) (fun l => aP V R * freqN l) 7424 (j.val - 128 - 128) (by omega)).trans (kv_key V R _ _ (by omega) (by omega))
  rw [dif_neg h2]
  by_cases h3 : j.val - 128 - 128 - 128 < 128
  · rw [dif_pos h3]
    exact kv_value V R _ _ (by omega) (by simp only; omega)
  rw [dif_neg h3]
  by_cases h4 : j.val - 128 - 128 - 128 - 128 < 128
  · rw [dif_pos h4]
    exact (halves32 (row V R) (fun l => aP V R * freqN l) 7680 (j.val - 128 - 128 - 128 - 128) (by omega)).trans
      (kv_key V R _ _ (by omega) (by omega))
  rw [dif_neg h4]
  exact kv_value V R _ _ (by omega) (by simp only; omega)

theorem gate_at (R : Fin 65536) (j : Fin 256) :
    (Host.divf (broadcastInDim S65536x256 ![] bcast_S_S65536x256 (constant S_ .f32 0x3F800000#32)) (addf (broadcastInDim S65536x256 ![] bcast_S_S65536x256 (constant S_ .f32 0x3F800000#32)) (Host.exp (Host.negf (extractStridedSlice S65536x256 ![0, 7936] (res_main_v51 V) slices_S65536x8192_S65536x256_0_7936)))) : FVec Ideal S65536x256 .f32) (ix2 R j) = gate (aX V R) (aG V) (aW V) j.val := by
  pointwise
  rw [v51_at]
  rfl

end Cert.ProjRefIdeal.Value
-- ==== Proof.ProjClaims.lean ====
/-
The claims of the projection call: both programs end with their semaphores at zero, the idealization rewrites nothing, and kernel
and reference leave the same seven arrays.
-/
module

public import proofs.«01_k».proof.Defs
public import proofs.«01_k».proof.Proof.ProjK
public import proofs.«01_k».proof.Proof.ProjRef
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import Idealize.ShloMosaic.Adequacy
public import Idealize.ShloMosaic.Init

@[expose] public section

set_option maxRecDepth 16384

noncomputable section

namespace Cert.ProjClaims

open Idealize.ShloMosaic Idealize.ShloMosaic.Pipeline Idealize.ShloMosaic.StableHlo Idealize.SL.Sem

theorem frame_p : Cert.quiescent_Proj := fun m ρ _ => Cert.Proj.Gen.frame m ρ
theorem frame_pi : Cert.quiescent_ProjIdeal := fun m ρ _ => Cert.ProjIdeal.Gen.frame m ρ
theorem frame_ri : Cert.quiescent_ProjRefIdeal := fun m ρ _ =>
  (θ_run Cert.ProjRefIdeal.defs _ _).mono
    (fun r h => ⟨fun c => (h c).2.2.2.2.2.2.2, Idealize.ShloMosaic.sem_eq_zero_of_no_sems (by decide) r.2⟩)
    (Cert.ProjRefIdeal.Value.run (F := Ideal) m ρ)

theorem preserves : Cert.preserves_Proj_ProjIdeal :=
  IdealRules.named_const.statement Cert.ProjIdeal.κ "inv_sqrt_dk" .f32 0x3DB504F3#32 (((Real.sqrt 128)⁻¹ : ℝ) : EReal) rfl

theorem algebraic : Cert.algebraic_ProjIdeal_ProjRefIdeal := by
  intro m ρ m' ρ' _ hagree
  refine ⟨_, _, _, _, _, _, _, Cert.ProjIdeal.Value.run_blocks (F := Ideal) m ρ, ?_⟩
  refine (θ_run Cert.ProjRefIdeal.defs _ _).mono (fun _ h c => ?_) (Cert.ProjRefIdeal.Value.run (F := Ideal) m' ρ')
  obtain ⟨q, k, v, g, n, w, s, rest⟩ := h c
  obtain ⟨h0, h1, h2, h3⟩ := hagree c
  have e0 : Cert.ProjRefIdeal.Value.aX (launchContents m' c) = Cert.ProjIdeal.Value.a0 m c := funext fun r => funext fun l => congrFun h0 (ix2 r l)
  have e1 : Cert.ProjRefIdeal.Value.aP (launchContents m' c) = Cert.ProjIdeal.Value.pos m c :=
    funext fun r => congrArg (FloatOps.sitofp (F := Ideal) .f32) (congrFun h1 (ix2 r 0))
  have e2 : Cert.ProjRefIdeal.Value.aG (launchContents m' c) = Cert.ProjIdeal.Value.a2 m c 0 := funext fun l => congrFun h2 (ix2 0 l)
  have e3 : Cert.ProjRefIdeal.Value.aW (launchContents m' c) = Cert.ProjIdeal.Value.a3 m c := funext fun r => funext fun l => congrFun h3 (ix2 r l)
  refine ⟨q.trans ?_, k.trans ?_, v.trans ?_, g.trans ?_, n.trans ?_, w.trans ?_, s.trans ?_, rest⟩
  · rw [Cert.ProjIdeal.Value.final6 m c]
    funext i
    obtain ⟨R, j, rfl⟩ := Cert.ProjIdeal.Value.ex2 i
    refine (Cert.ProjRefIdeal.Value.rq_at (launchContents m' c) R j).trans ?_
    rw [e0, e1, e2, e3]
    rfl
  · rw [Cert.ProjIdeal.Value.final7 m c]
    funext i
    obtain ⟨R, j, rfl⟩ := Cert.ProjIdeal.Value.ex2 i
    refine (Cert.ProjRefIdeal.Value.rk_at (launchContents m' c) R j).trans ?_
    rw [e0, e1, e2, e3]
    rfl
  · rw [Cert.ProjIdeal.Value.final8 m c]
    funext i
    obtain ⟨R, j, rfl⟩ := Cert.ProjIdeal.Value.ex2 i
    refine (Cert.ProjRefIdeal.Value.rv_at (launchContents m' c) R j).trans ?_
    rw [e0, e2, e3]
    rfl
  · rw [Cert.ProjIdeal.Value.final9 m c]
    funext i
    obtain ⟨R, j, rfl⟩ := Cert.ProjIdeal.Value.ex2 i
    refine (Cert.ProjRefIdeal.Value.rg_at (launchContents m' c) R j).trans ?_
    rw [e0, e2, e3]
    rfl
  · rw [Cert.ProjIdeal.Value.final10 m c]
    funext i
    obtain ⟨R, j, rfl⟩ := Cert.ProjIdeal.Value.ex2 i
    refine (Cert.ProjRefIdeal.Value.nq_at (launchContents m' c) R j).trans ?_
    rw [e0, e1, e2, e3]
    rfl
  · rw [Cert.ProjIdeal.Value.final11 m c]
    funext i
    obtain ⟨R, j, rfl⟩ := Cert.ProjIdeal.Value.ex2 i
    refine (Cert.ProjRefIdeal.Value.kv_at (launchContents m' c) R j).trans ?_
    rw [e0, e1, e2, e3]
    rfl
  · rw [Cert.ProjIdeal.Value.final12 m c]
    funext i
    obtain ⟨R, j, rfl⟩ := Cert.ProjIdeal.Value.ex2 i
    refine (Cert.ProjRefIdeal.Value.gate_at (launchContents m' c) R j).trans ?_
    rw [e0, e2, e3]
    rfl

end Cert.ProjClaims

end

end
-- ==== Proof.lean ====
module

public import proofs.«01_k».proof.Proof.Gen.RetIdeal.Value
public import proofs.«01_k».proof.Proof.Gen.RetRefIdeal.Run
public import proofs.«01_k».proof.Defs
public import proofs.«01_k».proof.Proof.RetClaims
public import proofs.«01_k».proof.Proof.TailClaims
public import proofs.«01_k».proof.Proof.ProjClaims
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.TailIdeal.Value
public import proofs.«01_k».proof.Proof.Gen.TailRefIdeal.Run
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailRefIdeal
public import proofs.«01_k».proof.Proof.Gen.ProjIdeal.Value
public import proofs.«01_k».proof.Proof.Gen.ProjRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import Idealize.ShloMosaic.Adequacy
public import Idealize.ShloMosaic.Init

@[expose] public section

noncomputable section

namespace Cert.Proof

open Idealize.ShloMosaic Idealize.SL.Sem Cert.Ret

theorem claim : Cert.Claim := ⟨Cert.Ret.Gen.facts, Cert.RetIdeal.Gen.facts, Cert.RetRefIdeal.Gen.facts,
  Cert.Tail.Gen.facts, Cert.TailIdeal.Gen.facts, Cert.TailRefIdeal.Gen.facts,
  Cert.Proj.Gen.facts, Cert.ProjIdeal.Gen.facts, Cert.ProjRefIdeal.Gen.facts,
  Cert.RetClaims.frame_p, Cert.RetClaims.frame_pi, Cert.RetClaims.frame_ri,
  Cert.TailClaims.frame_p, Cert.TailClaims.frame_pi, Cert.TailClaims.frame_ri,
  Cert.ProjClaims.frame_p, Cert.ProjClaims.frame_pi, Cert.ProjClaims.frame_ri,
  Cert.RetClaims.preserves, Cert.RetClaims.algebraic, Cert.TailClaims.preserves, Cert.TailClaims.algebraic,
  Cert.ProjClaims.preserves, Cert.ProjClaims.algebraic⟩

end Cert.Proof

end
